-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![32768, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x8192x512 : Shape := ⟨3, ![2, 8192, 512]⟩
abbrev S2x4x1024x512 : Shape := ⟨4, ![2, 4, 1024, 512]⟩
abbrev S2x2048x1024 : Shape := ⟨3, ![2, 2048, 1024]⟩
abbrev S2x4 : Shape := ⟨2, ![2, 4]⟩
abbrev S2 : Shape := ⟨1, ![2]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1024x512 : Shape := ⟨2, ![1024, 512]⟩
abbrev S1x1024x512 : Shape := ⟨3, ![1, 1024, 512]⟩
abbrev S1x1 : Shape := ⟨2, ![1, 1]⟩
abbrev S1x1x1024x512 : Shape := ⟨4, ![1, 1, 1024, 512]⟩
abbrev S1x2048x1024 : Shape := ⟨3, ![1, 2048, 1024]⟩
abbrev S2048x1024 : Shape := ⟨2, ![2048, 1024]⟩
abbrev S1x2048x512 : Shape := ⟨3, ![1, 2048, 512]⟩
abbrev S2048x512 : Shape := ⟨2, ![2048, 512]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .bf16⟩
  | .local _ .vmem, ⟨1, _⟩ => ⟨S2x8192x512, .bf16⟩
  | .local _ .vmem, ⟨2, _⟩ => ⟨S2x4x1024x512, .bf16⟩
  | .local _ .vmem, ⟨3, _⟩ => ⟨S2x2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 9 19 bufScoped semScoped dmaSemScoped tileCredit tileCredit_eq_zero tileCredit_pos).withBarriers [(0, 8)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 8

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v30 : BitVec 32 := Scalar.muli v2 c2048_i32
  let v31 : BitVec 32 := Scalar.addi v30 c0_i32_19
  let c0_i32_24 : BitVec 32 := 0#32
  ![v31.toNat, 0]
def k0_off2 (d0 : Dev nD) (c0_i32_37 : BitVec 32) : Fin 3 → Nat :=
  let c0_40 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_36 : BitVec 32 := 2048#32
  let v49 : BitVec 32 := Scalar.muli v2 c2048_i32_36
  let v50 : BitVec 32 := Scalar.addi v49 c0_i32_37
  let v55 : Index := Scalar.indexCast v50
  let c0_41 : Index := 0#32
  ![0, v55.toNat, 0]
def k0_off3 (d0 : Dev nD) (c0_i32_37 : BitVec 32) : Fin 3 → Nat :=
  let c1 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_36 : BitVec 32 := 2048#32
  let v49 : BitVec 32 := Scalar.muli v2 c2048_i32_36
  let v50 : BitVec 32 := Scalar.addi v49 c0_i32_37
  let v61 : Index := Scalar.indexCast v50
  let c0_42 : Index := 0#32
  ![1, v61.toNat, 0]
def k0_off4 (d0 : Dev nD) (c0_i32_57 : BitVec 32) (c0_i32_65 : BitVec 32) : Fin 3 → Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v87 : BitVec 32 := Scalar.subi v2 c0_i32_57
  let c4_i32_58 : BitVec 32 := 4#32
  let c0_i32_59 : BitVec 32 := 0#32
  let v88 : BitVec 1 := Scalar.cmpi .eq c4_i32_58 c0_i32_59
  let c1_i32_60 : BitVec 32 := 1#32
  let v89 : BitVec 32 := Scalar.select v88 c1_i32_60 c4_i32_58
  let v90 : BitVec 32 := Scalar.remsi v87 v89
  let c0_i32_62 : BitVec 32 := 0#32
  let v92 : BitVec 1 := Scalar.cmpi .slt v90 c0_i32_62
  let c0_i32_63 : BitVec 32 := 0#32
  let v93 : BitVec 1 := Scalar.cmpi .slt v89 c0_i32_63
  let v94 : BitVec 1 := Scalar.xori v92 v93
  let c0_i32_61 : BitVec 32 := 0#32
  let v91 : BitVec 1 := Scalar.cmpi .ne v90 c0_i32_61
  let v95 : BitVec 1 := Scalar.andi v94 v91
  let v96 : BitVec 32 := Scalar.addi v90 v89
  let v97 : BitVec 32 := Scalar.select v95 v96 v90
  let c2048_i32_64 : BitVec 32 := 2048#32
  let v98 : BitVec 32 := Scalar.muli v97 c2048_i32_64
  let v99 : BitVec 32 := Scalar.addi v98 c0_i32_65
  let c0_i32_77 : BitVec 32 := 0#32
  ![0, v99.toNat, 0]
def k0_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_73 : BitVec 32 := 1#32
  let v100 : BitVec 32 := Scalar.muli v24 c1_i32_73
  let v101 : BitVec 32 := Scalar.addi c0_i32_74 v100
  v101.toNat
def k0_off5 (d0 : Dev nD) (c0_i32_78 : BitVec 32) (c0_i32_86 : BitVec 32) : Fin 3 → Nat :=
  let c1_i32_87 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v110 : BitVec 32 := Scalar.addi v2 c0_i32_78
  let c4_i32_79 : BitVec 32 := 4#32
  let c0_i32_80 : BitVec 32 := 0#32
  let v111 : BitVec 1 := Scalar.cmpi .eq c4_i32_79 c0_i32_80
  let c1_i32_81 : BitVec 32 := 1#32
  let v112 : BitVec 32 := Scalar.select v111 c1_i32_81 c4_i32_79
  let v113 : BitVec 32 := Scalar.remsi v110 v112
  let c0_i32_83 : BitVec 32 := 0#32
  let v115 : BitVec 1 := Scalar.cmpi .slt v113 c0_i32_83
  let c0_i32_84 : BitVec 32 := 0#32
  let v116 : BitVec 1 := Scalar.cmpi .slt v112 c0_i32_84
  let v117 : BitVec 1 := Scalar.xori v115 v116
  let c0_i32_82 : BitVec 32 := 0#32
  let v114 : BitVec 1 := Scalar.cmpi .ne v113 c0_i32_82
  let v118 : BitVec 1 := Scalar.andi v117 v114
  let v119 : BitVec 32 := Scalar.addi v113 v112
  let v120 : BitVec 32 := Scalar.select v118 v119 v113
  let c2048_i32_85 : BitVec 32 := 2048#32
  let v121 : BitVec 32 := Scalar.muli v120 c2048_i32_85
  let v122 : BitVec 32 := Scalar.addi v121 c0_i32_86
  let c0_i32_98 : BitVec 32 := 0#32
  ![1, v122.toNat, 0]
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_94 : BitVec 32 := 1#32
  let v123 : BitVec 32 := Scalar.muli v13 c1_i32_94
  let v124 : BitVec 32 := Scalar.addi c0_i32_95 v123
  v124.toNat
def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_128 : BitVec 32 := 1#32
  let v167 : BitVec 32 := Scalar.muli v24 c1_i32_128
  let v168 : BitVec 32 := Scalar.addi c0_i32_129 v167
  v168.toNat
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_149 : BitVec 32 := 1#32
  let v190 : BitVec 32 := Scalar.muli v13 c1_i32_149
  let v191 : BitVec 32 := Scalar.addi c0_i32_150 v190
  v191.toNat
def k0_off6 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v200 : BitVec 32 := Scalar.addi v2 c3_i32
  let c4_i32_154 : BitVec 32 := 4#32
  let c0_i32_155 : BitVec 32 := 0#32
  let v201 : BitVec 1 := Scalar.cmpi .eq c4_i32_154 c0_i32_155
  let c1_i32_156 : BitVec 32 := 1#32
  let v202 : BitVec 32 := Scalar.select v201 c1_i32_156 c4_i32_154
  let v203 : BitVec 32 := Scalar.remsi v200 v202
  let c0_i32_158 : BitVec 32 := 0#32
  let v205 : BitVec 1 := Scalar.cmpi .slt v203 c0_i32_158
  let c0_i32_159 : BitVec 32 := 0#32
  let v206 : BitVec 1 := Scalar.cmpi .slt v202 c0_i32_159
  let v207 : BitVec 1 := Scalar.xori v205 v206
  let c0_i32_157 : BitVec 32 := 0#32
  let v204 : BitVec 1 := Scalar.cmpi .ne v203 c0_i32_157
  let v208 : BitVec 1 := Scalar.andi v207 v204
  let v209 : BitVec 32 := Scalar.addi v203 v202
  let v210 : BitVec 32 := Scalar.select v208 v209 v203
  let c2048_i32_160 : BitVec 32 := 2048#32
  let v211 : BitVec 32 := Scalar.muli v210 c2048_i32_160
  let c0_i32_165 : BitVec 32 := 0#32
  ![v211.toNat, 0]
def k0_off7 (d0 : Dev nD) (c3_i32_184 : BitVec 32) : Fin 3 → Nat :=
  let c0_195 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v239 : BitVec 32 := Scalar.addi v2 c3_i32_184
  let c4_i32_185 : BitVec 32 := 4#32
  let c0_i32_186 : BitVec 32 := 0#32
  let v240 : BitVec 1 := Scalar.cmpi .eq c4_i32_185 c0_i32_186
  let c1_i32_187 : BitVec 32 := 1#32
  let v241 : BitVec 32 := Scalar.select v240 c1_i32_187 c4_i32_185
  let v242 : BitVec 32 := Scalar.remsi v239 v241
  let c0_i32_189 : BitVec 32 := 0#32
  let v244 : BitVec 1 := Scalar.cmpi .slt v242 c0_i32_189
  let c0_i32_190 : BitVec 32 := 0#32
  let v245 : BitVec 1 := Scalar.cmpi .slt v241 c0_i32_190
  let v246 : BitVec 1 := Scalar.xori v244 v245
  let c0_i32_188 : BitVec 32 := 0#32
  let v243 : BitVec 1 := Scalar.cmpi .ne v242 c0_i32_188
  let v247 : BitVec 1 := Scalar.andi v246 v243
  let v248 : BitVec 32 := Scalar.addi v242 v241
  let v249 : BitVec 32 := Scalar.select v247 v248 v242
  let c2048_i32_194 : BitVec 32 := 2048#32
  let v253 : BitVec 32 := Scalar.muli v249 c2048_i32_194
  let v254 : Index := Scalar.indexCast v253
  let c0_196 : Index := 0#32
  ![0, v254.toNat, 0]
def k0_off8 (d0 : Dev nD) (c3_i32_184 : BitVec 32) : Fin 3 → Nat :=
  let c1_200 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v239 : BitVec 32 := Scalar.addi v2 c3_i32_184
  let c4_i32_185 : BitVec 32 := 4#32
  let c0_i32_186 : BitVec 32 := 0#32
  let v240 : BitVec 1 := Scalar.cmpi .eq c4_i32_185 c0_i32_186
  let c1_i32_187 : BitVec 32 := 1#32
  let v241 : BitVec 32 := Scalar.select v240 c1_i32_187 c4_i32_185
  let v242 : BitVec 32 := Scalar.remsi v239 v241
  let c0_i32_189 : BitVec 32 := 0#32
  let v244 : BitVec 1 := Scalar.cmpi .slt v242 c0_i32_189
  let c0_i32_190 : BitVec 32 := 0#32
  let v245 : BitVec 1 := Scalar.cmpi .slt v241 c0_i32_190
  let v246 : BitVec 1 := Scalar.xori v244 v245
  let c0_i32_188 : BitVec 32 := 0#32
  let v243 : BitVec 1 := Scalar.cmpi .ne v242 c0_i32_188
  let v247 : BitVec 1 := Scalar.andi v246 v243
  let v248 : BitVec 32 := Scalar.addi v242 v241
  let v249 : BitVec 32 := Scalar.select v247 v248 v242
  let c2048_i32_199 : BitVec 32 := 2048#32
  let v261 : BitVec 32 := Scalar.muli v249 c2048_i32_199
  let v262 : Index := Scalar.indexCast v261
  let c0_201 : Index := 0#32
  ![1, v262.toNat, 0]
def k0_off9 (d0 : Dev nD) (c0_i32_275 : BitVec 32) (c0_i32_284 : BitVec 32) : Fin 3 → Nat :=
  let c0_285 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v355 : BitVec 32 := Scalar.subi v2 c0_i32_275
  let c1_i32_276 : BitVec 32 := 1#32
  let v356 : BitVec 32 := Scalar.subi v355 c1_i32_276
  let c4_i32_277 : BitVec 32 := 4#32
  let c0_i32_278 : BitVec 32 := 0#32
  let v357 : BitVec 1 := Scalar.cmpi .eq c4_i32_277 c0_i32_278
  let c1_i32_279 : BitVec 32 := 1#32
  let v358 : BitVec 32 := Scalar.select v357 c1_i32_279 c4_i32_277
  let v359 : BitVec 32 := Scalar.remsi v356 v358
  let c0_i32_281 : BitVec 32 := 0#32
  let v361 : BitVec 1 := Scalar.cmpi .slt v359 c0_i32_281
  let c0_i32_282 : BitVec 32 := 0#32
  let v362 : BitVec 1 := Scalar.cmpi .slt v358 c0_i32_282
  let v363 : BitVec 1 := Scalar.xori v361 v362
  let c0_i32_280 : BitVec 32 := 0#32
  let v360 : BitVec 1 := Scalar.cmpi .ne v359 c0_i32_280
  let v364 : BitVec 1 := Scalar.andi v363 v360
  let v365 : BitVec 32 := Scalar.addi v359 v358
  let v366 : BitVec 32 := Scalar.select v364 v365 v359
  let c2048_i32_283 : BitVec 32 := 2048#32
  let v367 : BitVec 32 := Scalar.muli v366 c2048_i32_283
  let v368 : BitVec 32 := Scalar.addi v367 c0_i32_284
  let v369 : Index := Scalar.indexCast v368
  let c0_286 : Index := 0#32
  ![0, v369.toNat, 0]
def k0_dev7 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_298 : BitVec 32 := 1#32
  let v383 : BitVec 32 := Scalar.muli v13 c1_i32_298
  let v384 : BitVec 32 := Scalar.addi c0_i32_299 v383
  v384.toNat
def k0_off10 (d0 : Dev nD) (c0_i32_312 : BitVec 32) (c0_i32_321 : BitVec 32) : Fin 3 → Nat :=
  let c1_322 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v393 : BitVec 32 := Scalar.addi v2 c0_i32_312
  let c1_i32_313 : BitVec 32 := 1#32
  let v394 : BitVec 32 := Scalar.addi v393 c1_i32_313
  let c4_i32_314 : BitVec 32 := 4#32
  let c0_i32_315 : BitVec 32 := 0#32
  let v395 : BitVec 1 := Scalar.cmpi .eq c4_i32_314 c0_i32_315
  let c1_i32_316 : BitVec 32 := 1#32
  let v396 : BitVec 32 := Scalar.select v395 c1_i32_316 c4_i32_314
  let v397 : BitVec 32 := Scalar.remsi v394 v396
  let c0_i32_318 : BitVec 32 := 0#32
  let v399 : BitVec 1 := Scalar.cmpi .slt v397 c0_i32_318
  let c0_i32_319 : BitVec 32 := 0#32
  let v400 : BitVec 1 := Scalar.cmpi .slt v396 c0_i32_319
  let v401 : BitVec 1 := Scalar.xori v399 v400
  let c0_i32_317 : BitVec 32 := 0#32
  let v398 : BitVec 1 := Scalar.cmpi .ne v397 c0_i32_317
  let v402 : BitVec 1 := Scalar.andi v401 v398
  let v403 : BitVec 32 := Scalar.addi v397 v396
  let v404 : BitVec 32 := Scalar.select v402 v403 v397
  let c2048_i32_320 : BitVec 32 := 2048#32
  let v405 : BitVec 32 := Scalar.muli v404 c2048_i32_320
  let v406 : BitVec 32 := Scalar.addi v405 c0_i32_321
  let v407 : Index := Scalar.indexCast v406
  let c0_323 : Index := 0#32
  ![1, v407.toNat, 0]
def k0_dev8 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_335 : BitVec 32 := 1#32
  let v421 : BitVec 32 := Scalar.muli v24 c1_i32_335
  let v422 : BitVec 32 := Scalar.addi c0_i32_336 v421
  v422.toNat
def k0_dev9 (d0 : Dev nD) : Nat :=
  let c0_i32_354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_353 : BitVec 32 := 1#32
  let v436 : BitVec 32 := Scalar.muli v24 c1_i32_353
  let v437 : BitVec 32 := Scalar.addi c0_i32_354 v436
  v437.toNat
def k0_dev10 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_374 : BitVec 32 := 1#32
  let v459 : BitVec 32 := Scalar.muli v13 c1_i32_374
  let v460 : BitVec 32 := Scalar.addi c0_i32_375 v459
  v460.toNat
def k0_dev11 (d0 : Dev nD) : Nat :=
  let c0_i32_415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_414 : BitVec 32 := 1#32
  let v505 : BitVec 32 := Scalar.muli v13 c1_i32_414
  let v506 : BitVec 32 := Scalar.addi c0_i32_415 v505
  v506.toNat
def k0_dev12 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_451 : BitVec 32 := 1#32
  let v543 : BitVec 32 := Scalar.muli v24 c1_i32_451
  let v544 : BitVec 32 := Scalar.addi c0_i32_452 v543
  v544.toNat
def k0_dev13 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_469 : BitVec 32 := 1#32
  let v558 : BitVec 32 := Scalar.muli v24 c1_i32_469
  let v559 : BitVec 32 := Scalar.addi c0_i32_470 v558
  v559.toNat
def k0_dev14 (d0 : Dev nD) : Nat :=
  let c0_i32_491 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_490 : BitVec 32 := 1#32
  let v581 : BitVec 32 := Scalar.muli v13 c1_i32_490
  let v582 : BitVec 32 := Scalar.addi c0_i32_491 v581
  v582.toNat
def k0_dev15 (d0 : Dev nD) : Nat :=
  let c0_i32_530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_529 : BitVec 32 := 1#32
  let v627 : BitVec 32 := Scalar.muli v13 c1_i32_529
  let v628 : BitVec 32 := Scalar.addi c0_i32_530 v627
  v628.toNat
def k0_dev16 (d0 : Dev nD) : Nat :=
  let c0_i32_567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_566 : BitVec 32 := 1#32
  let v665 : BitVec 32 := Scalar.muli v24 c1_i32_566
  let v666 : BitVec 32 := Scalar.addi c0_i32_567 v665
  v666.toNat
def k0_dev17 (d0 : Dev nD) : Nat :=
  let c0_i32_611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_610 : BitVec 32 := 1#32
  let v694 : BitVec 32 := Scalar.muli v24 c1_i32_610
  let v695 : BitVec 32 := Scalar.addi c0_i32_611 v694
  v695.toNat
def k0_dev18 (d0 : Dev nD) : Nat :=
  let c0_i32_636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_635 : BitVec 32 := 1#32
  let v719 : BitVec 32 := Scalar.muli v13 c1_i32_635
  let v720 : BitVec 32 := Scalar.addi c0_i32_636 v719
  v720.toNat
def k0_dev19 (d0 : Dev nD) : Nat :=
  let c0_i32_675 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_674 : BitVec 32 := 1#32
  let v765 : BitVec 32 := Scalar.muli v13 c1_i32_674
  let v766 : BitVec 32 := Scalar.addi c0_i32_675 v765
  v766.toNat
def k0_dev20 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_711 : BitVec 32 := 1#32
  let v803 : BitVec 32 := Scalar.muli v24 c1_i32_711
  let v804 : BitVec 32 := Scalar.addi c0_i32_712 v803
  v804.toNat
def k0_dev21 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_755 : BitVec 32 := 1#32
  let v832 : BitVec 32 := Scalar.muli v24 c1_i32_755
  let v833 : BitVec 32 := Scalar.addi c0_i32_756 v832
  v833.toNat
def k0_dev22 (d0 : Dev nD) : Nat :=
  let c0_i32_781 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_780 : BitVec 32 := 1#32
  let v857 : BitVec 32 := Scalar.muli v13 c1_i32_780
  let v858 : BitVec 32 := Scalar.addi c0_i32_781 v857
  v858.toNat
def k0_dev23 (d0 : Dev nD) : Nat :=
  let c0_i32_821 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_820 : BitVec 32 := 1#32
  let v903 : BitVec 32 := Scalar.muli v13 c1_i32_820
  let v904 : BitVec 32 := Scalar.addi c0_i32_821 v903
  v904.toNat
def k0_dev24 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_857 : BitVec 32 := 1#32
  let v941 : BitVec 32 := Scalar.muli v24 c1_i32_857
  let v942 : BitVec 32 := Scalar.addi c0_i32_858 v941
  v942.toNat
def k0_off11 (d0 : Dev nD) (c0_i32_860 : BitVec 32) : Fin 3 → Nat :=
  let c0_861 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v65 : BitVec 32 := Scalar.addi v2 c1_i32_43
  let c4_i32_44 : BitVec 32 := 4#32
  let c0_i32_45 : BitVec 32 := 0#32
  let v66 : BitVec 1 := Scalar.cmpi .eq c4_i32_44 c0_i32_45
  let c1_i32_46 : BitVec 32 := 1#32
  let v67 : BitVec 32 := Scalar.select v66 c1_i32_46 c4_i32_44
  let v68 : BitVec 32 := Scalar.remsi v65 v67
  let c0_i32_48 : BitVec 32 := 0#32
  let v70 : BitVec 1 := Scalar.cmpi .slt v68 c0_i32_48
  let c0_i32_49 : BitVec 32 := 0#32
  let v71 : BitVec 1 := Scalar.cmpi .slt v67 c0_i32_49
  let v72 : BitVec 1 := Scalar.xori v70 v71
  let c0_i32_47 : BitVec 32 := 0#32
  let v69 : BitVec 1 := Scalar.cmpi .ne v68 c0_i32_47
  let v73 : BitVec 1 := Scalar.andi v72 v69
  let v74 : BitVec 32 := Scalar.addi v68 v67
  let v75 : BitVec 32 := Scalar.select v73 v74 v68
  let c2048_i32_859 : BitVec 32 := 2048#32
  let v943 : BitVec 32 := Scalar.muli v75 c2048_i32_859
  let v944 : BitVec 32 := Scalar.addi v943 c0_i32_860
  let v945 : Index := Scalar.indexCast v944
  let c0_862 : Index := 0#32
  ![0, v945.toNat, 0]
def k0_off12 (d0 : Dev nD) (c0_i32_864 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v65 : BitVec 32 := Scalar.addi v2 c1_i32_43
  let c4_i32_44 : BitVec 32 := 4#32
  let c0_i32_45 : BitVec 32 := 0#32
  let v66 : BitVec 1 := Scalar.cmpi .eq c4_i32_44 c0_i32_45
  let c1_i32_46 : BitVec 32 := 1#32
  let v67 : BitVec 32 := Scalar.select v66 c1_i32_46 c4_i32_44
  let v68 : BitVec 32 := Scalar.remsi v65 v67
  let c0_i32_48 : BitVec 32 := 0#32
  let v70 : BitVec 1 := Scalar.cmpi .slt v68 c0_i32_48
  let c0_i32_49 : BitVec 32 := 0#32
  let v71 : BitVec 1 := Scalar.cmpi .slt v67 c0_i32_49
  let v72 : BitVec 1 := Scalar.xori v70 v71
  let c0_i32_47 : BitVec 32 := 0#32
  let v69 : BitVec 1 := Scalar.cmpi .ne v68 c0_i32_47
  let v73 : BitVec 1 := Scalar.andi v72 v69
  let v74 : BitVec 32 := Scalar.addi v68 v67
  let v75 : BitVec 32 := Scalar.select v73 v74 v68
  let c2048_i32_863 : BitVec 32 := 2048#32
  let v948 : BitVec 32 := Scalar.muli v75 c2048_i32_863
  let v949 : BitVec 32 := Scalar.addi v948 c0_i32_864
  let v950 : Index := Scalar.indexCast v949
  let c0_865 : Index := 0#32
  ![v950.toNat, 0]
def k0_off13 (d0 : Dev nD) (c0_i32_867 : BitVec 32) : Fin 3 → Nat :=
  let c1_868 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v76 : BitVec 32 := Scalar.subi v2 c1_i32_50
  let c4_i32_51 : BitVec 32 := 4#32
  let c0_i32_52 : BitVec 32 := 0#32
  let v77 : BitVec 1 := Scalar.cmpi .eq c4_i32_51 c0_i32_52
  let c1_i32_53 : BitVec 32 := 1#32
  let v78 : BitVec 32 := Scalar.select v77 c1_i32_53 c4_i32_51
  let v79 : BitVec 32 := Scalar.remsi v76 v78
  let c0_i32_55 : BitVec 32 := 0#32
  let v81 : BitVec 1 := Scalar.cmpi .slt v79 c0_i32_55
  let c0_i32_56 : BitVec 32 := 0#32
  let v82 : BitVec 1 := Scalar.cmpi .slt v78 c0_i32_56
  let v83 : BitVec 1 := Scalar.xori v81 v82
  let c0_i32_54 : BitVec 32 := 0#32
  let v80 : BitVec 1 := Scalar.cmpi .ne v79 c0_i32_54
  let v84 : BitVec 1 := Scalar.andi v83 v80
  let v85 : BitVec 32 := Scalar.addi v79 v78
  let v86 : BitVec 32 := Scalar.select v84 v85 v79
  let c2048_i32_866 : BitVec 32 := 2048#32
  let v952 : BitVec 32 := Scalar.muli v86 c2048_i32_866
  let v953 : BitVec 32 := Scalar.addi v952 c0_i32_867
  let v954 : Index := Scalar.indexCast v953
  let c0_869 : Index := 0#32
  ![1, v954.toNat, 0]
def k0_off14 (d0 : Dev nD) (c0_i32_871 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v76 : BitVec 32 := Scalar.subi v2 c1_i32_50
  let c4_i32_51 : BitVec 32 := 4#32
  let c0_i32_52 : BitVec 32 := 0#32
  let v77 : BitVec 1 := Scalar.cmpi .eq c4_i32_51 c0_i32_52
  let c1_i32_53 : BitVec 32 := 1#32
  let v78 : BitVec 32 := Scalar.select v77 c1_i32_53 c4_i32_51
  let v79 : BitVec 32 := Scalar.remsi v76 v78
  let c0_i32_55 : BitVec 32 := 0#32
  let v81 : BitVec 1 := Scalar.cmpi .slt v79 c0_i32_55
  let c0_i32_56 : BitVec 32 := 0#32
  let v82 : BitVec 1 := Scalar.cmpi .slt v78 c0_i32_56
  let v83 : BitVec 1 := Scalar.xori v81 v82
  let c0_i32_54 : BitVec 32 := 0#32
  let v80 : BitVec 1 := Scalar.cmpi .ne v79 c0_i32_54
  let v84 : BitVec 1 := Scalar.andi v83 v80
  let v85 : BitVec 32 := Scalar.addi v79 v78
  let v86 : BitVec 32 := Scalar.select v84 v85 v79
  let c2048_i32_870 : BitVec 32 := 2048#32
  let v957 : BitVec 32 := Scalar.muli v86 c2048_i32_870
  let v958 : BitVec 32 := Scalar.addi v957 c0_i32_871
  let v959 : Index := Scalar.indexCast v958
  let c512_872 : Index := 512#32
  ![v959.toNat, 512]
def k0_off15 (d0 : Dev nD) (c0_i32_900 : BitVec 32) : Fin 3 → Nat :=
  let c0_i32_901 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_43 : BitVec 32 := 1#32
  let v65 : BitVec 32 := Scalar.addi v2 c1_i32_43
  let c4_i32_44 : BitVec 32 := 4#32
  let c0_i32_45 : BitVec 32 := 0#32
  let v66 : BitVec 1 := Scalar.cmpi .eq c4_i32_44 c0_i32_45
  let c1_i32_46 : BitVec 32 := 1#32
  let v67 : BitVec 32 := Scalar.select v66 c1_i32_46 c4_i32_44
  let v68 : BitVec 32 := Scalar.remsi v65 v67
  let c0_i32_48 : BitVec 32 := 0#32
  let v70 : BitVec 1 := Scalar.cmpi .slt v68 c0_i32_48
  let c0_i32_49 : BitVec 32 := 0#32
  let v71 : BitVec 1 := Scalar.cmpi .slt v67 c0_i32_49
  let v72 : BitVec 1 := Scalar.xori v70 v71
  let c0_i32_47 : BitVec 32 := 0#32
  let v69 : BitVec 1 := Scalar.cmpi .ne v68 c0_i32_47
  let v73 : BitVec 1 := Scalar.andi v72 v69
  let v74 : BitVec 32 := Scalar.addi v68 v67
  let v75 : BitVec 32 := Scalar.select v73 v74 v68
  let c2048_i32_899 : BitVec 32 := 2048#32
  let v975 : BitVec 32 := Scalar.muli v75 c2048_i32_899
  let v976 : BitVec 32 := Scalar.addi v975 c0_i32_900
  let c0_i32_912 : BitVec 32 := 0#32
  ![0, v976.toNat, 0]
def k0_dev25 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_908 : BitVec 32 := 1#32
  let v977 : BitVec 32 := Scalar.muli v24 c1_i32_908
  let v978 : BitVec 32 := Scalar.addi c0_i32_909 v977
  v978.toNat
def k0_off16 (d0 : Dev nD) (c0_i32_918 : BitVec 32) : Fin 3 → Nat :=
  let c1_i32_919 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v76 : BitVec 32 := Scalar.subi v2 c1_i32_50
  let c4_i32_51 : BitVec 32 := 4#32
  let c0_i32_52 : BitVec 32 := 0#32
  let v77 : BitVec 1 := Scalar.cmpi .eq c4_i32_51 c0_i32_52
  let c1_i32_53 : BitVec 32 := 1#32
  let v78 : BitVec 32 := Scalar.select v77 c1_i32_53 c4_i32_51
  let v79 : BitVec 32 := Scalar.remsi v76 v78
  let c0_i32_55 : BitVec 32 := 0#32
  let v81 : BitVec 1 := Scalar.cmpi .slt v79 c0_i32_55
  let c0_i32_56 : BitVec 32 := 0#32
  let v82 : BitVec 1 := Scalar.cmpi .slt v78 c0_i32_56
  let v83 : BitVec 1 := Scalar.xori v81 v82
  let c0_i32_54 : BitVec 32 := 0#32
  let v80 : BitVec 1 := Scalar.cmpi .ne v79 c0_i32_54
  let v84 : BitVec 1 := Scalar.andi v83 v80
  let v85 : BitVec 32 := Scalar.addi v79 v78
  let v86 : BitVec 32 := Scalar.select v84 v85 v79
  let c2048_i32_917 : BitVec 32 := 2048#32
  let v989 : BitVec 32 := Scalar.muli v86 c2048_i32_917
  let v990 : BitVec 32 := Scalar.addi v989 c0_i32_918
  let c0_i32_930 : BitVec 32 := 0#32
  ![1, v990.toNat, 0]
def k0_dev26 (d0 : Dev nD) : Nat :=
  let c0_i32_927 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_926 : BitVec 32 := 1#32
  let v991 : BitVec 32 := Scalar.muli v13 c1_i32_926
  let v992 : BitVec 32 := Scalar.addi c0_i32_927 v991
  v992.toNat
def k0_dev27 (d0 : Dev nD) : Nat :=
  let c0_i32_967 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_966 : BitVec 32 := 1#32
  let v1037 : BitVec 32 := Scalar.muli v13 c1_i32_966
  let v1038 : BitVec 32 := Scalar.addi c0_i32_967 v1037
  v1038.toNat
def k0_dev28 (d0 : Dev nD) : Nat :=
  let c0_i32_1004 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1003 : BitVec 32 := 1#32
  let v1075 : BitVec 32 := Scalar.muli v24 c1_i32_1003
  let v1076 : BitVec 32 := Scalar.addi c0_i32_1004 v1075
  v1076.toNat
def k0_dev29 (d0 : Dev nD) : Nat :=
  let c0_i32_1055 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1054 : BitVec 32 := 1#32
  let v1111 : BitVec 32 := Scalar.muli v24 c1_i32_1054
  let v1112 : BitVec 32 := Scalar.addi c0_i32_1055 v1111
  v1112.toNat
def k0_dev30 (d0 : Dev nD) : Nat :=
  let c0_i32_1073 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1072 : BitVec 32 := 1#32
  let v1125 : BitVec 32 := Scalar.muli v13 c1_i32_1072
  let v1126 : BitVec 32 := Scalar.addi c0_i32_1073 v1125
  v1126.toNat
def k0_off17 (d0 : Dev nD) (c0_i32_1089 : BitVec 32) (c0_i32_1101 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1143 : BitVec 32 := Scalar.subi v2 c0_i32_1089
  let c4_i32_1090 : BitVec 32 := 4#32
  let c0_i32_1091 : BitVec 32 := 0#32
  let v1144 : BitVec 1 := Scalar.cmpi .eq c4_i32_1090 c0_i32_1091
  let c1_i32_1092 : BitVec 32 := 1#32
  let v1145 : BitVec 32 := Scalar.select v1144 c1_i32_1092 c4_i32_1090
  let v1146 : BitVec 32 := Scalar.remsi v1143 v1145
  let c0_i32_1094 : BitVec 32 := 0#32
  let v1148 : BitVec 1 := Scalar.cmpi .slt v1146 c0_i32_1094
  let c0_i32_1095 : BitVec 32 := 0#32
  let v1149 : BitVec 1 := Scalar.cmpi .slt v1145 c0_i32_1095
  let v1150 : BitVec 1 := Scalar.xori v1148 v1149
  let c0_i32_1093 : BitVec 32 := 0#32
  let v1147 : BitVec 1 := Scalar.cmpi .ne v1146 c0_i32_1093
  let v1151 : BitVec 1 := Scalar.andi v1150 v1147
  let v1152 : BitVec 32 := Scalar.addi v1146 v1145
  let v1153 : BitVec 32 := Scalar.select v1151 v1152 v1146
  let c2048_i32_1100 : BitVec 32 := 2048#32
  let v1156 : BitVec 32 := Scalar.muli v1153 c2048_i32_1100
  let v1157 : BitVec 32 := Scalar.addi v1156 c0_i32_1101
  let v1158 : Index := Scalar.indexCast v1157
  let c0_1102 : Index := 0#32
  ![v1158.toNat, 0]
def k0_off18 (d0 : Dev nD) (c0_i32_1115 : BitVec 32) (c0_i32_1127 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1168 : BitVec 32 := Scalar.addi v2 c0_i32_1115
  let c4_i32_1116 : BitVec 32 := 4#32
  let c0_i32_1117 : BitVec 32 := 0#32
  let v1169 : BitVec 1 := Scalar.cmpi .eq c4_i32_1116 c0_i32_1117
  let c1_i32_1118 : BitVec 32 := 1#32
  let v1170 : BitVec 32 := Scalar.select v1169 c1_i32_1118 c4_i32_1116
  let v1171 : BitVec 32 := Scalar.remsi v1168 v1170
  let c0_i32_1120 : BitVec 32 := 0#32
  let v1173 : BitVec 1 := Scalar.cmpi .slt v1171 c0_i32_1120
  let c0_i32_1121 : BitVec 32 := 0#32
  let v1174 : BitVec 1 := Scalar.cmpi .slt v1170 c0_i32_1121
  let v1175 : BitVec 1 := Scalar.xori v1173 v1174
  let c0_i32_1119 : BitVec 32 := 0#32
  let v1172 : BitVec 1 := Scalar.cmpi .ne v1171 c0_i32_1119
  let v1176 : BitVec 1 := Scalar.andi v1175 v1172
  let v1177 : BitVec 32 := Scalar.addi v1171 v1170
  let v1178 : BitVec 32 := Scalar.select v1176 v1177 v1171
  let c2048_i32_1126 : BitVec 32 := 2048#32
  let v1181 : BitVec 32 := Scalar.muli v1178 c2048_i32_1126
  let v1182 : BitVec 32 := Scalar.addi v1181 c0_i32_1127
  let v1183 : Index := Scalar.indexCast v1182
  let c512_1128 : Index := 512#32
  ![v1183.toNat, 512]
def k0_dev31 (d0 : Dev nD) : Nat :=
  let c0_i32_1164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1163 : BitVec 32 := 1#32
  let v1199 : BitVec 32 := Scalar.muli v24 c1_i32_1163
  let v1200 : BitVec 32 := Scalar.addi c0_i32_1164 v1199
  v1200.toNat
def k0_dev32 (d0 : Dev nD) : Nat :=
  let c0_i32_1182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1181 : BitVec 32 := 1#32
  let v1211 : BitVec 32 := Scalar.muli v13 c1_i32_1181
  let v1212 : BitVec 32 := Scalar.addi c0_i32_1182 v1211
  v1212.toNat
def k0_dev33 (d0 : Dev nD) : Nat :=
  let c0_i32_1274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1273 : BitVec 32 := 1#32
  let v1285 : BitVec 32 := Scalar.muli v24 c1_i32_1273
  let v1286 : BitVec 32 := Scalar.addi c0_i32_1274 v1285
  v1286.toNat
def k0_dev34 (d0 : Dev nD) : Nat :=
  let c0_i32_1292 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1291 : BitVec 32 := 1#32
  let v1297 : BitVec 32 := Scalar.muli v13 c1_i32_1291
  let v1298 : BitVec 32 := Scalar.addi c0_i32_1292 v1297
  v1298.toNat
def k0_dev35 (d0 : Dev nD) : Nat :=
  let c0_i32_1392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1391 : BitVec 32 := 1#32
  let v1377 : BitVec 32 := Scalar.muli v13 c1_i32_1391
  let v1378 : BitVec 32 := Scalar.addi c0_i32_1392 v1377
  v1378.toNat
def k0_dev36 (d0 : Dev nD) : Nat :=
  let c0_i32_1410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1409 : BitVec 32 := 1#32
  let v1387 : BitVec 32 := Scalar.muli v24 c1_i32_1409
  let v1388 : BitVec 32 := Scalar.addi c0_i32_1410 v1387
  v1388.toNat
def k0_dev37 (d0 : Dev nD) : Nat :=
  let c0_i32_1424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1423 : BitVec 32 := 1#32
  let v1391 : BitVec 32 := Scalar.muli v24 c1_i32_1423
  let v1392 : BitVec 32 := Scalar.addi c0_i32_1424 v1391
  v1392.toNat
def k0_dev38 (d0 : Dev nD) : Nat :=
  let c0_i32_1442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1441 : BitVec 32 := 1#32
  let v1403 : BitVec 32 := Scalar.muli v13 c1_i32_1441
  let v1404 : BitVec 32 := Scalar.addi c0_i32_1442 v1403
  v1404.toNat
def k0_dev39 (d0 : Dev nD) : Nat :=
  let c0_i32_1542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1541 : BitVec 32 := 1#32
  let v1483 : BitVec 32 := Scalar.muli v13 c1_i32_1541
  let v1484 : BitVec 32 := Scalar.addi c0_i32_1542 v1483
  v1484.toNat
def k0_dev40 (d0 : Dev nD) : Nat :=
  let c0_i32_1560 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1559 : BitVec 32 := 1#32
  let v1493 : BitVec 32 := Scalar.muli v24 c1_i32_1559
  let v1494 : BitVec 32 := Scalar.addi c0_i32_1560 v1493
  v1494.toNat
def k0_dev41 (d0 : Dev nD) : Nat :=
  let c0_i32_1574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1573 : BitVec 32 := 1#32
  let v1497 : BitVec 32 := Scalar.muli v24 c1_i32_1573
  let v1498 : BitVec 32 := Scalar.addi c0_i32_1574 v1497
  v1498.toNat
def k0_dev42 (d0 : Dev nD) : Nat :=
  let c0_i32_1592 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1591 : BitVec 32 := 1#32
  let v1509 : BitVec 32 := Scalar.muli v13 c1_i32_1591
  let v1510 : BitVec 32 := Scalar.addi c0_i32_1592 v1509
  v1510.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ring.lean ====
/-
The ring of four devices, the semaphores of the kernel, and the order in which a device pays what it owes.

Write `nxt c` and `prv c` for the neighbours of device `c`. The array is split by columns: direction `0` carries the
left half of the columns from each device to `nxt`, direction `1` the right half from each device to `prv`. Each
direction makes twelve transfers `t = 0, …, 11` of 1024 rows, transfer `t` landing in slot `t % 4` of the receiver.

* The barrier cell of `c`: each neighbour signals it once; `c` waits for both. A neighbour's signal hands over its four
  landing slots of the direction in which `c` sends to it.
* The send cell `(d, s)` of `c`: rounds `0, 1, 2`, paid by `c`'s own transfers `s`, `s + 4`, `s + 8` once the source has
  been read; the source comes back.
* The landing cell `(d, s)` of `c`: rounds `0, 1, 2`, paid by the sender's transfers; the slot comes with what landed.
* The credit cell `(d, s)` of `c`: rounds `0, 1`, paid by the receiver once it has read slot `s`; the slot comes back, so
  that transfer `s + 4 (round + 1)` may be sent.
* The copy cell `s` of `c`: two or three rounds, paid by `c`'s own copies of rows of `x` into its staging slot `s`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

/-- The device that direction `d` of `c` sends to. -/
def toD (d : ℕ) (c : Dev nD) : Dev nD := if d = 0 then nxt c else prv c
/-- The device that direction `d` of `c` receives from. -/
def frD (d : ℕ) (c : Dev nD) : Dev nD := if d = 0 then prv c else nxt c

theorem prv_nxt (c : Dev nD) : prv (nxt c) = c := by revert c; decide
theorem nxt_prv (c : Dev nD) : nxt (prv c) = c := by revert c; decide
theorem frD_toD (d : ℕ) (c : Dev nD) : frD d (toD d c) = c := by
  unfold frD toD; split
  · exact prv_nxt c
  · exact nxt_prv c
theorem toD_frD (d : ℕ) (c : Dev nD) : toD d (frD d c) = c := by
  unfold frD toD; split
  · exact nxt_prv c
  · exact prv_nxt c

/-- Sending in direction `d`, as a permutation of the devices. -/
def ring (d : ℕ) : Dev nD ≃ Dev nD := ⟨toD d, frD d, frD_toD d, toD_frD d⟩

/-! ## The semaphores -/

/-- The barrier semaphore of the launch. -/
abbrev barS : Sem sig := (SemArray.scalar (sig.barrier 0 rfl) : Sems sig S_).sem

set_option backward.proofsInPublic true in
def sndS (d : Fin 2) (s : Fin 4) : DmaSem sig := ⟨1 + 4 * d.val + s.val, by have := d.isLt; have := s.isLt; show _ < 19; omega⟩
set_option backward.proofsInPublic true in
def rcvS (d : Fin 2) (s : Fin 4) : DmaSem sig := ⟨9 + 4 * d.val + s.val, by have := d.isLt; have := s.isLt; show _ < 19; omega⟩
set_option backward.proofsInPublic true in
def crdS (d : Fin 2) (s : Fin 4) : Sem sig := ⟨4 * d.val + s.val, by have := d.isLt; have := s.isLt; show _ < 9; omega⟩
set_option backward.proofsInPublic true in
def cpyS (s : Fin 2) : DmaSem sig := ⟨17 + s.val, by have := s.isLt; show _ < 19; omega⟩

/-- The slot of transfer `t`. -/
def slot (t : ℕ) : Fin 4 := ⟨t % 4, Nat.mod_lt _ (by decide)⟩

theorem slot_add_four (t : ℕ) : slot (t + 4) = slot t := Fin.ext (Nat.add_mod_right t 4)

abbrev barC (c : Dev nD) : GSem nD τ sig := ((c : Thread nD τ), .reg barS)
abbrev sndC (c : Dev nD) (d : Fin 2) (s : Fin 4) : GSem nD τ sig := ((c : Thread nD τ), .dma (sndS d s))
abbrev rcvC (c : Dev nD) (d : Fin 2) (s : Fin 4) : GSem nD τ sig := ((c : Thread nD τ), .dma (rcvS d s))
abbrev crdC (c : Dev nD) (d : Fin 2) (s : Fin 4) : GSem nD τ sig := ((c : Thread nD τ), .reg (crdS d s))
abbrev cpyC (c : Dev nD) (s : Fin 2) : GSem nD τ sig := ((c : Thread nD τ), .dma (cpyS s))

/-- What a semaphore of the kernel is for. -/
inductive Role where
  | bar
  | snd (d : Fin 2) (s : Fin 4)
  | rcv (d : Fin 2) (s : Fin 4)
  | crd (d : Fin 2) (s : Fin 4)
  | cpy (s : Fin 2)
  | other
  deriving DecidableEq

/-- The role of a semaphore, read off its number. -/
def role : SemLoc sig → Role
  | .reg q => if h : q.val < 8 then .crd ⟨q.val / 4, by omega⟩ ⟨q.val % 4, Nat.mod_lt _ (by decide)⟩ else .bar
  | .dma q =>
    if q.val < 1 then .other
    else if h : q.val < 9 then .snd ⟨(q.val - 1) / 4, by omega⟩ ⟨(q.val - 1) % 4, Nat.mod_lt _ (by decide)⟩
    else if h : q.val < 17 then .rcv ⟨(q.val - 9) / 4, by omega⟩ ⟨(q.val - 9) % 4, Nat.mod_lt _ (by decide)⟩
    else .cpy ⟨(q.val - 17) % 2, Nat.mod_lt _ (by decide)⟩

theorem role_bar : role (.reg barS) = .bar := by decide +kernel
theorem role_snd (d : Fin 2) (s : Fin 4) : role (.dma (sndS d s)) = .snd d s := by revert d s; decide +kernel
theorem role_rcv (d : Fin 2) (s : Fin 4) : role (.dma (rcvS d s)) = .rcv d s := by revert d s; decide +kernel
theorem role_crd (d : Fin 2) (s : Fin 4) : role (.reg (crdS d s)) = .crd d s := by revert d s; decide +kernel
theorem role_cpy (s : Fin 2) : role (.dma (cpyS s)) = .cpy s := by revert s; decide +kernel

/-- The kernel's 27 cells of a device by number: the barrier, then send, landing, credit and copy cells. -/
def csem (k : Fin 27) : SemLoc sig :=
  if k.val = 0 then .reg barS
  else if h : k.val < 17 then .dma ⟨k.val, by show _ < 19; omega⟩
  else if h' : k.val < 25 then .reg ⟨k.val - 17, by show _ < 9; omega⟩
  else .dma ⟨k.val - 8, by have := k.isLt; show _ < 19; omega⟩

/-- The cells other than the barrier's: the kernel's own semaphores. -/
def osem (k : Fin 26) : SemLoc sig := csem k.succ

def kSnd (d : Fin 2) (s : Fin 4) : Fin 27 := ⟨1 + 4 * d.val + s.val, by have := d.isLt; have := s.isLt; omega⟩
def kRcv (d : Fin 2) (s : Fin 4) : Fin 27 := ⟨9 + 4 * d.val + s.val, by have := d.isLt; have := s.isLt; omega⟩
def kCrd (d : Fin 2) (s : Fin 4) : Fin 27 := ⟨17 + 4 * d.val + s.val, by have := d.isLt; have := s.isLt; omega⟩
def kCpy (s : Fin 2) : Fin 27 := ⟨25 + s.val, by have := s.isLt; omega⟩

theorem csem_bar : csem 0 = .reg barS := rfl
theorem csem_snd (d : Fin 2) (s : Fin 4) : csem (kSnd d s) = .dma (sndS d s) := by revert d s; decide +kernel
theorem csem_rcv (d : Fin 2) (s : Fin 4) : csem (kRcv d s) = .dma (rcvS d s) := by revert d s; decide +kernel
theorem csem_crd (d : Fin 2) (s : Fin 4) : csem (kCrd d s) = .reg (crdS d s) := by revert d s; decide +kernel
theorem csem_cpy (s : Fin 2) : csem (kCpy s) = .dma (cpyS s) := by revert s; decide +kernel

theorem csem_inj : Function.Injective csem := by decide +kernel

theorem ownSemFacts : Pipeline.OwnSemFacts cfg0.spec osem := by decide +kernel

def kcell (ck : Dev nD × Fin 27) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : csem k = csem k' := congrArg Prod.snd h
  subst h1; rw [csem_inj h2]

/-! ## What a device owes, in the order it pays -/

/-- A payment: a signal of a barrier cell (of `nxt` or `prv`), of the credit cell for transfer `t + 4`, or a transfer. -/
inductive Pay where
  | bar (toNxt : Bool)
  | crd (d : Fin 2) (t : ℕ)
  | rcv (d : Fin 2) (t : ℕ)
  deriving DecidableEq

/-- The payments of every device in program order. -/
def pays : List Pay :=
  [.bar false, .bar true, .rcv 0 0, .rcv 1 0, .rcv 0 1, .rcv 1 1]
  ++ [.crd 0 0, .crd 1 0, .rcv 0 2, .rcv 1 2, .crd 0 1, .crd 1 1, .rcv 0 3, .rcv 1 3]
  ++ [.crd 0 2, .crd 1 2, .rcv 0 4, .rcv 1 4, .crd 0 3, .crd 1 3, .rcv 0 5, .rcv 1 5]
  ++ [.crd 0 4, .crd 1 4, .rcv 0 6, .rcv 1 6, .crd 0 5, .crd 1 5, .rcv 0 7, .rcv 1 7]
  ++ [.rcv 0 8, .rcv 1 8, .rcv 0 9, .rcv 1 9]
  ++ [.crd 0 6, .crd 1 6, .rcv 0 10, .rcv 1 10, .crd 0 7, .crd 1 7, .rcv 0 11, .rcv 1 11]

/-- The buffers: landing slots, working buffer, staging slots, the argument. -/
abbrev recvM : Memref sig .tc .vmem S2x4x1024x512 .bf16 := Memref.whole cc0_scratch1
abbrev wM : Memref sig .tc .vmem S2x8192x512 .bf16 := Memref.whole cc0_scratch0
abbrev stageM : Memref sig .tc .vmem S2x2048x1024 .f32 := Memref.whole cc0_scratch2
abbrev xM : Memref sig .tc .hbm S8192x1024 .f32 := Memref.whole main_arg0

/-- The credit of a transfer of 1024 rows of half the columns, and of a copy of 1024 and of 2048 rows of `x`. -/
def N : ℕ := (cc0_scratch1 : Ref sig .tc).dmaCredit S1024x512 .bf16
def Nh : ℕ := (cc0_scratch2 : Ref sig .tc).dmaCredit S1024x1024 .f32
def Nc : ℕ := (cc0_scratch2 : Ref sig .tc).dmaCredit S2048x1024 .f32

theorem N_pos : 0 < N := sig.dmaCredit_pos _ _ _ _ _ (by decide)
theorem Nh_pos : 0 < Nh := sig.dmaCredit_pos _ _ _ _ _ (by decide)
theorem Nc_pos : 0 < Nc := sig.dmaCredit_pos _ _ _ _ _ (by decide)

/-- The cell, the index and the amount of a payment of device `c`. The index of a landing or credit is its round. -/
def Pay.cell (c : Dev nD) : Pay → GSem nD τ sig
  | .bar b => barC (if b then nxt c else prv c)
  | .crd d t => crdC (frD d c) d (slot t)
  | .rcv d t => rcvC (toD d c) d (slot t)
def Pay.ix : Pay → ℕ
  | .bar _ => 0
  | .crd _ t => t / 4
  | .rcv _ t => t / 4
def Pay.amt : Pay → ℕ
  | .bar _ => 1
  | .crd _ _ => 1
  | .rcv _ _ => N
/-- Where a payment stands in the order in which waits may depend on payments. -/
def Pay.level : Pay → ℕ
  | .bar _ => 1
  | .crd _ t => 2 * (t + 4) + 2
  | .rcv _ t => 2 * t + 3

def tally (c : Dev nD) (p : Pay) : CellTallies nD τ sig ℕ := tallyAt (p.cell c) p.ix p.amt

/-- What device `c` owes for a list of payments, the first of the list the last summand. -/
def owed (c : Dev nD) : List Pay → CellTallies nD τ sig ℕ
  | [] => 0
  | p :: l => owed c l + tally c p

/-- The indices of a cell, and the level of each: for a landing cell of slot `s` the level at round `r` is that of
    transfer `s + 4 r`. -/
def L (g : GSem nD τ sig) : Finset ℕ := if g.1.2 = .tc then Finset.range 3 else ∅
def lv (g : GSem nD τ sig) (r : ℕ) : ℕ := match role g.2 with
  | .bar => 1
  | .crd _ s => 2 * (s.val + 4 * r + 4) + 2
  | .rcv _ s => 2 * (s.val + 4 * r) + 3
  | _ => 0

theorem L_of_ne (g : GSem nD τ sig) (h : g.1.2 ≠ .tc) : L g = ∅ := if_neg h
theorem L_tc (c : Dev nD) (sm : SemLoc sig) : L ((c : Thread nD τ), sm) = Finset.range 3 := if_pos rfl

theorem slot_round (t : ℕ) : (slot t).val + 4 * (t / 4) = t := Nat.mod_add_div t 4

theorem lv_pay (c : Dev nD) (p : Pay) : lv (p.cell c) p.ix = p.level := by
  cases p with
  | bar b => unfold lv Pay.cell; dsimp only; rw [role_bar]; rfl
  | crd d t => unfold lv Pay.cell; dsimp only; rw [role_crd]; dsimp only [Pay.ix, Pay.level]; rw [slot_round]
  | rcv d t => unfold lv Pay.cell; dsimp only; rw [role_rcv]; dsimp only [Pay.ix, Pay.level]; rw [slot_round]

theorem L_pay (c : Dev nD) (p : Pay) : L (p.cell c) = Finset.range 3 := by
  cases p <;> exact L_tc _ _

/-- A cell owed for a list of payments is the cell of one of them. -/
theorem owed_pos {c : Dev nD} {g : GSem nD τ sig} {u : ℕ} : ∀ {l : List Pay}, 0 < owed c l g u → ∃ p ∈ l, g = p.cell c ∧ u = p.ix
  | [], h => absurd h (Nat.lt_irrefl 0)
  | p :: l, h => by
    unfold owed tally at h
    rw [Pi.add_apply, Finsupp.add_apply, tallyAt_apply] at h
    by_cases hp : g = p.cell c ∧ u = p.ix
    · exact ⟨p, List.mem_cons_self, hp⟩
    · rw [if_neg hp, Nat.add_zero] at h
      obtain ⟨q, hq, e⟩ := owed_pos h
      exact ⟨q, List.mem_cons_of_mem _ hq, e⟩

/-- The payments of a list all come after level `n`, and at one of the indices. -/
def above (n : ℕ) (l : List Pay) : Bool := l.all fun p => decide (n < p.level) && decide (p.ix < 3)

section Waits

variable {F : FTy → Type}

local notation "𝕄" => MT nD τ sig ℕ (Elt F) ℕ (UR sig nD τ × URounds (GSem nD τ sig) Bool) ℕ

/-- A wait at a cell below every payment still owed may be made. -/
theorem mayWait (c : Dev nD) (sm : SemLoc sig) (ix : ℕ) (n : ℕ) (l : List Pay) (hix : ix < 3) (hn : lv ((c : Thread nD τ), sm) ix ≤ n)
    (hl : above n l = true) : (levAts L lv : sProp 𝕄) ⊢ MayWait (c : Thread nD τ) sm ix (owed c l) := by
  have hl' : ∀ p ∈ l, n < p.level ∧ p.ix < 3 := fun p hp => by
    have := List.all_eq_true.mp hl p hp
    simpa using this
  refine MayOwe.of_cut (L := L) (lev := lv) n (fun p hp => ?_) (fun g u hg => ?_) (fun p hp => ?_) (fun g u hg => ?_)
  · rw [Finset.mem_singleton.mp hp, L_tc]; exact Finset.mem_range.mpr hix
  · obtain ⟨p, hp, rfl, rfl⟩ := owed_pos hg; rw [L_pay]; exact Finset.mem_range.mpr (hl' p hp).2
  · rw [Finset.mem_singleton.mp hp]; exact hn
  · obtain ⟨p, hp, rfl, rfl⟩ := owed_pos hg; rw [lv_pay]; exact (hl' p hp).1

end Waits

end Cert.RingProof

end
-- ==== Proof.Contents.lean ====
/-
What the buffers of a device hold, as functions of natural-number coordinates, and what the kernel's slices of them read.

`chunk d h c` is the block of 2048 rows that device `c` sends at hop `h` of direction `d`; `acc d h c` is the sum at
device `c` of the casts of its own rows and of the rows of the `h` devices before it; `sent d t c` is what transfer `t`
carries away from device `c`.
-/
module

public import proofs.«01_k».proof.Proof.Ring
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-! ## Buffers of natural-number coordinates -/

def wOf {α : Type} (g : ℕ → ℕ → ℕ → α) : S2x8192x512.Idx → α := fun i => g (i 0).val (i 1).val (i 2).val
def rOf {α : Type} (g : ℕ → ℕ → ℕ → ℕ → α) : S2x4x1024x512.Idx → α := fun i => g (i 0).val (i 1).val (i 2).val (i 3).val
def sOf {α : Type} (g : ℕ → ℕ → ℕ → α) : S2x2048x1024.Idx → α := fun i => g (i 0).val (i 1).val (i 2).val
def xOf {α : Type} (g : ℕ → ℕ → α) : S8192x1024.Idx → α := fun i => g (i 0).val (i 1).val

/-- The index of row `r`, column `k` of an array of 8192 rows and 1024 columns. -/
def ix (r k : ℕ) : S8192x1024.Idx := fun a => match a with
  | ⟨0, _⟩ => ⟨r % 8192, Nat.mod_lt _ (by decide)⟩
  | ⟨1, _⟩ => ⟨k % 1024, Nat.mod_lt _ (by decide)⟩

theorem ix_val (i : S8192x1024.Idx) : ix (i 0).val (i 1).val = i := by
  funext a
  match a with
  | ⟨0, _⟩ => exact Fin.ext (Nat.mod_eq_of_lt (i 0).isLt)
  | ⟨1, _⟩ => exact Fin.ext (Nat.mod_eq_of_lt (i 1).isLt)

/-! ## The values -/

/-- Row `r`, column `k` of the argument of device `c`. -/
def xAt (c : Dev nD) (r k : ℕ) : Elt F .f32 := (m ((c : Thread nD τ).loc main_arg0) : S8192x1024.Idx → Elt F .f32) (ix r k)

theorem xOf_xAt (c : Dev nD) : xOf (xAt m c) = m ((c : Thread nD τ).loc main_arg0) := by
  funext i
  exact congrArg (m ((c : Thread nD τ).loc main_arg0) : S8192x1024.Idx → Elt F .f32) (ix_val i)

def castAt (c : Dev nD) (r k : ℕ) : Elt F .bf16 := FloatOps.truncf .bf16 bitsLt_bf16_f32 (xAt m c r k)

/-- The sum at device `c`, after `h` hops in direction `d`, at row `r` and column `k` of the half. -/
def acc (d : ℕ) : ℕ → Dev nD → ℕ → ℕ → Elt F .bf16
  | 0, c, r, k => castAt m c r (512 * d + k)
  | h + 1, c, r, k => FloatOps.addf (castAt m c r (512 * d + k)) (acc d h (frD d c) r k)

/-- The block of rows device `c` sends at hop `h`. -/
def chunk (d h : ℕ) (c : Dev nD) : ℕ := if d = 0 then (c.val + 3 * h) % 4 else (c.val + h) % 4

theorem chunk_lt (d h : ℕ) (c : Dev nD) : chunk d h c < 4 := by unfold chunk; split <;> exact Nat.mod_lt _ (by decide)

theorem chunk_succ (d h : ℕ) (c : Dev nD) : chunk d (h + 1) c = chunk d h (frD d c) := by
  unfold chunk frD
  split
  · show (c.val + 3 * (h + 1)) % 4 = ((c.val + 3) % 4 + 3 * h) % 4; omega
  · show (c.val + (h + 1)) % 4 = ((c.val + 1) % 4 + h) % 4; omega

theorem chunk_add_four (d h : ℕ) (c : Dev nD) : chunk d (h + 4) c = chunk d h c := by
  unfold chunk; split <;> omega

/-- The device that transfer `t`'s rows were summed at, seen from the sender: transfers `8, …, 11` pass on what the
    sender has received two transfers earlier. -/
def origin (d t : ℕ) (c : Dev nD) : Dev nD := if t < 8 then c else if t < 10 then frD d c else frD d (frD d c)

/-- Transfers `6, …, 11` carry sums of all four devices, the others of as many as hops. -/
def hops (t : ℕ) : ℕ := if t < 8 then t / 2 else 3

/-- The first row of transfer `t` of device `c`. -/
def row0 (d t : ℕ) (c : Dev nD) : ℕ := 2048 * chunk d (t / 2) c + 1024 * (t % 2)

/-- Row `i`, column `k` of what transfer `t` carries away from device `c`. -/
def sent (d t : ℕ) (c : Dev nD) (i k : ℕ) : Elt F .bf16 := acc m d (hops t) (origin d t c) (row0 d t c + i) k

theorem sent_early {d t : ℕ} (c : Dev nD) (i k : ℕ) (h : t < 8) : sent m d t c i k = acc m d (t / 2) c (row0 d t c + i) k := by
  unfold sent hops origin; rw [if_pos h, if_pos h]

/-- A transfer after the seventh carries what was received two transfers earlier. -/
theorem sent_late {d t : ℕ} (c : Dev nD) (i k : ℕ) (h8 : 8 ≤ t) (h12 : t < 12) : sent m d t c i k = sent m d (t - 2) (frD d c) i k := by
  have hrow : row0 d t c = row0 d (t - 2) (frD d c) := by
    unfold row0
    have h1 : t / 2 = (t - 2) / 2 + 1 := by omega
    have h2 : (t - 2) % 2 = t % 2 := by omega
    rw [h1, chunk_succ, h2]
  unfold sent
  rw [hrow]
  have hh : hops t = hops (t - 2) := by
    unfold hops; rw [if_neg (by omega)]
    by_cases h : t < 10
    · rw [if_pos (by omega)]; omega
    · rw [if_neg (by omega)]
  have ho : origin d t c = origin d (t - 2) (frD d c) := by
    unfold origin
    rw [if_neg (by omega)]
    by_cases h : t < 10
    · rw [if_pos h, if_pos (by omega)]
    · rw [if_neg h, if_neg (by omega), if_pos (by omega)]
  rw [hh, ho]

/-- What device `c` adds to at transfer `r`: its own cast; the sum is what it sends two transfers later. -/
theorem sent_step {d r : ℕ} (c : Dev nD) (i k : ℕ) (h : r < 6) :
    sent m d (r + 2) c i k = FloatOps.addf (castAt m c (row0 d (r + 2) c + i) (512 * d + k)) (sent m d r (frD d c) i k) := by
  rw [sent_early m c i k (by omega), sent_early m (frD d c) i k (by omega)]
  have h1 : (r + 2) / 2 = r / 2 + 1 := by omega
  have h2 : (r + 2) % 2 = r % 2 := by omega
  have hrow : row0 d (r + 2) c = row0 d r (frD d c) := by unfold row0; rw [h1, h2, chunk_succ]
  rw [h1]
  show FloatOps.addf _ _ = _
  rw [hrow]

/-- The device at which the sum over all four devices of block `q` is complete in direction `d`. -/
def own (d q : ℕ) : Dev nD := ⟨(if d = 0 then q + 3 else q + 1) % 4, Nat.mod_lt _ (by decide)⟩

theorem own_chunk (d : ℕ) (c : Dev nD) : own d (chunk d 3 c) = c := by
  apply Fin.ext
  have hc : c.val < 4 := c.isLt
  show (if d = 0 then chunk d 3 c + 3 else chunk d 3 c + 1) % 4 = c.val
  unfold chunk; split <;> omega

/-- Row `r`, column `k` of the result, the same on every device. -/
def outAt (r k : ℕ) : Elt F .bf16 := acc m (k / 512) 3 (own (k / 512) (r / 2048)) r (k % 512)

/-- The rows of the last transfers are rows of the result. -/
theorem sent_out {d t : ℕ} (c : Dev nD) (i k : ℕ) (h6 : 6 ≤ t) (h12 : t < 12) (hi : i < 1024) (hk : k < 512) :
    sent m d t c i k = outAt m (row0 d t c + i) (512 * d + k) := by
  have base : ∀ (t : ℕ) (c : Dev nD), 6 ≤ t → t < 8 → sent m d t c i k = outAt m (row0 d t c + i) (512 * d + k) := fun t c h6 h8 => by
    rw [sent_early m c i k h8]
    unfold outAt
    have h3 : t / 2 = 3 := by omega
    have e1 : (512 * d + k) / 512 = d := by omega
    have e2 : (512 * d + k) % 512 = k := by omega
    have e3 : (row0 d t c + i) / 2048 = chunk d 3 c := by unfold row0; rw [h3]; omega
    rw [e1, e2, e3, own_chunk, h3]
  have hrow : ∀ (t : ℕ) (c : Dev nD), 8 ≤ t → row0 d t c = row0 d (t - 2) (frD d c) := fun t c h => by
    unfold row0
    have h1 : t / 2 = (t - 2) / 2 + 1 := by omega
    have h2 : (t - 2) % 2 = t % 2 := by omega
    rw [h1, chunk_succ, h2]
  by_cases h8 : t < 8
  · exact base t c h6 h8
  by_cases h10 : t < 10
  · rw [sent_late m c i k (by omega) h12, hrow t c (by omega)]; exact base _ _ (by omega) (by omega)
  · rw [sent_late m c i k (by omega) h12, hrow t c (by omega), sent_late m _ i k (by omega) (by omega), hrow _ _ (by omega)]
    exact base _ _ (by omega) (by omega)

/-! ## Contents of the buffers -/

/-- The working buffer with the sums after `h` hops. -/
def wAcc (h : ℕ) (c : Dev nD) : S2x8192x512.Idx → Elt F .bf16 := wOf fun d r k => acc m d h c r k
/-- The landing slots of device `c` with what its transfers `t` bring. -/
def rBuf (t : ℕ) (c : Dev nD) : S2x4x1024x512.Idx → Elt F .bf16 := rOf fun d _ i k => sent m d t (frD d c) i k
/-- The staging slots with block `q` of the argument. -/
def sBuf (q : ℕ) (c : Dev nD) : S2x2048x1024.Idx → Elt F .f32 := sOf fun _ r k => xAt m c (2048 * q + r) k
def xBuf (c : Dev nD) : S8192x1024.Idx → Elt F .f32 := xOf (xAt m c)
def oBuf : S8192x1024.Idx → Elt F .bf16 := xOf (outAt m)

/-! ## Sets of elements -/

def wSet (d r0 n : ℕ) : Finset S2x8192x512.Idx := Finset.univ.filter fun i => (i 0).val = d ∧ r0 ≤ (i 1).val ∧ (i 1).val < r0 + n
def rSet (d s : ℕ) : Finset S2x4x1024x512.Idx := Finset.univ.filter fun i => (i 0).val = d ∧ (i 1).val = s
def sSet (s r0 n : ℕ) : Finset S2x2048x1024.Idx := Finset.univ.filter fun i => (i 0).val = s ∧ r0 ≤ (i 1).val ∧ (i 1).val < r0 + n
def xSet (r0 n : ℕ) : Finset S8192x1024.Idx := Finset.univ.filter fun i => r0 ≤ (i 0).val ∧ (i 0).val < r0 + n
def oSet (d r0 : ℕ) : Finset S8192x1024.Idx :=
  Finset.univ.filter fun i => (r0 ≤ (i 0).val ∧ (i 0).val < r0 + 1024) ∧ 512 * d ≤ (i 1).val ∧ (i 1).val < 512 * d + 512

theorem mem_wSet {d r0 n : ℕ} {i : S2x8192x512.Idx} : i ∈ wSet d r0 n ↔ (i 0).val = d ∧ r0 ≤ (i 1).val ∧ (i 1).val < r0 + n := by
  unfold wSet; rw [Finset.mem_filter]; exact and_iff_right (Finset.mem_univ _)
theorem mem_rSet {d s : ℕ} {i : S2x4x1024x512.Idx} : i ∈ rSet d s ↔ (i 0).val = d ∧ (i 1).val = s := by
  unfold rSet; rw [Finset.mem_filter]; exact and_iff_right (Finset.mem_univ _)
theorem mem_sSet {s r0 n : ℕ} {i : S2x2048x1024.Idx} : i ∈ sSet s r0 n ↔ (i 0).val = s ∧ r0 ≤ (i 1).val ∧ (i 1).val < r0 + n := by
  unfold sSet; rw [Finset.mem_filter]; exact and_iff_right (Finset.mem_univ _)
theorem mem_xSet {r0 n : ℕ} {i : S8192x1024.Idx} : i ∈ xSet r0 n ↔ r0 ≤ (i 0).val ∧ (i 0).val < r0 + n := by
  unfold xSet; rw [Finset.mem_filter]; exact and_iff_right (Finset.mem_univ _)
theorem mem_oSet {d r0 : ℕ} {i : S8192x1024.Idx} :
    i ∈ oSet d r0 ↔ (r0 ≤ (i 0).val ∧ (i 0).val < r0 + 1024) ∧ 512 * d ≤ (i 1).val ∧ (i 1).val < 512 * d + 512 := by
  unfold oSet; rw [Finset.mem_filter]; exact and_iff_right (Finset.mem_univ _)

/-! ## The rectangles of the program -/

theorem wRect_set {off : Fin 3 → ℕ} {n : ℕ} {inb} {d r0 : ℕ} (h : off = ![d, r0, 0]) :
    (Rect.unit (s := S2x8192x512) off ![1, n, 512] inb).set = wSet d r0 n := by
  subst h
  ext i
  rw [Rect.mem_set_unit, mem_wSet]
  constructor
  · intro hi
    have h0 := hi 0; have h1 := hi 1
    simp at h0 h1
    omega
  · rintro ⟨h0, h1, h2⟩ a
    have h3 : (i 2).val < 512 := (i 2).isLt
    fin_cases a <;> simp <;> omega

theorem rRect_set {off : Fin 4 → ℕ} {inb} {d s : ℕ} (h : off = ![d, s, 0, 0]) :
    (Rect.unit (s := S2x4x1024x512) off ![1, 1, 1024, 512] inb).set = rSet d s := by
  subst h
  ext i
  rw [Rect.mem_set_unit, mem_rSet]
  constructor
  · intro hi
    have h0 := hi 0; have h1 := hi 1
    simp at h0 h1
    omega
  · rintro ⟨h0, h1⟩ a
    have h2 : (i 2).val < 1024 := (i 2).isLt
    have h3 : (i 3).val < 512 := (i 3).isLt
    fin_cases a <;> simp <;> omega

theorem sRect_set {off : Fin 3 → ℕ} {n : ℕ} {inb} {d r0 : ℕ} (h : off = ![d, r0, 0]) :
    (Rect.unit (s := S2x2048x1024) off ![1, n, 1024] inb).set = sSet d r0 n := by
  subst h
  ext i
  rw [Rect.mem_set_unit, mem_sSet]
  constructor
  · intro hi
    have h0 := hi 0; have h1 := hi 1
    simp at h0 h1
    omega
  · rintro ⟨h0, h1, h2⟩ a
    have h3 : (i 2).val < 1024 := (i 2).isLt
    fin_cases a <;> simp <;> omega

theorem xRect_set {off : Fin 2 → ℕ} {n : ℕ} {inb} {r0 : ℕ} (h : off = ![r0, 0]) :
    (Rect.unit (s := S8192x1024) off ![n, 1024] inb).set = xSet r0 n := by
  subst h
  ext i
  rw [Rect.mem_set_unit, mem_xSet]
  constructor
  · intro hi
    have h0 := hi 0
    simp at h0
    omega
  · rintro ⟨h0, h1⟩ a
    have h3 : (i 1).val < 1024 := (i 1).isLt
    fin_cases a <;> simp <;> omega

theorem oRect_set {off : Fin 2 → ℕ} {inb} {d r0 : ℕ} (h : off = ![r0, 512 * d]) :
    (Rect.unit (s := S8192x1024) off ![1024, 512] inb).set = oSet d r0 := by
  subst h
  ext i
  rw [Rect.mem_set_unit, mem_oSet]
  constructor
  · intro hi
    have h0 := hi 0; have h1 := hi 1
    simp at h0 h1
    omega
  · rintro ⟨⟨h0, h1⟩, h2, h3⟩ a
    fin_cases a <;> simp <;> omega

/-! ## Reading through the rectangles -/

theorem wRect_at {α : Type} {off : Fin 3 → ℕ} {n : ℕ} {inb} {d r0 : ℕ} (h : off = ![d, r0, 0]) (g : ℕ → ℕ → ℕ → α)
    (j : (⟨3, ![1, n, 512]⟩ : Shape).Idx) :
    wOf g ((Rect.unit (s := S2x8192x512) off ![1, n, 512] inb).emb j) = g d (r0 + (j 1).val) (j 2).val := by
  subst h
  have h0 : (j 0).val = 0 := by have := (j 0).isLt; simp at this; omega
  show g (d + 1 * (j 0).val) (r0 + 1 * (j 1).val) (0 + 1 * (j 2).val) = _
  simp only [h0, Nat.one_mul, Nat.zero_add, Nat.add_zero]

theorem rRect_at {α : Type} {off : Fin 4 → ℕ} {inb} {d s : ℕ} (h : off = ![d, s, 0, 0]) (g : ℕ → ℕ → ℕ → ℕ → α)
    (j : S1x1x1024x512.Idx) :
    rOf g ((Rect.unit (s := S2x4x1024x512) off ![1, 1, 1024, 512] inb).emb j) = g d s (j 2).val (j 3).val := by
  subst h
  have h0 : (j 0).val = 0 := by have := (j 0).isLt; simp at this; omega
  have h1 : (j 1).val = 0 := by have := (j 1).isLt; simp at this; omega
  show g (d + 1 * (j 0).val) (s + 1 * (j 1).val) (0 + 1 * (j 2).val) (0 + 1 * (j 3).val) = _
  simp only [h0, h1, Nat.one_mul, Nat.zero_add, Nat.add_zero]

theorem sRect_at {α : Type} {off : Fin 3 → ℕ} {n w : ℕ} {inb} {s r0 k0 : ℕ} (h : off = ![s, r0, k0]) (g : ℕ → ℕ → ℕ → α)
    (j : (⟨3, ![1, n, w]⟩ : Shape).Idx) :
    sOf g ((Rect.unit (s := S2x2048x1024) off ![1, n, w] inb).emb j) = g s (r0 + (j 1).val) (k0 + (j 2).val) := by
  subst h
  have h0 : (j 0).val = 0 := by have := (j 0).isLt; simp at this; omega
  show g (s + 1 * (j 0).val) (r0 + 1 * (j 1).val) (k0 + 1 * (j 2).val) = _
  simp only [h0, Nat.one_mul, Nat.add_zero]

theorem xRect_at {α : Type} {off : Fin 2 → ℕ} {n w : ℕ} {inb} {r0 k0 : ℕ} (h : off = ![r0, k0]) (g : ℕ → ℕ → α)
    (j : (⟨2, ![n, w]⟩ : Shape).Idx) :
    xOf g ((Rect.unit (s := S8192x1024) off ![n, w] inb).emb j) = g (r0 + (j 0).val) (k0 + (j 1).val) := by
  subst h
  show g (r0 + 1 * (j 0).val) (k0 + 1 * (j 1).val) = _
  simp only [Nat.one_mul]

/-! ## Dropping the unit axes -/

theorem cast3to2 {α : Type} {n w : ℕ} (v : (⟨3, ![1, n, w]⟩ : Shape).Idx → α) (h) (g : ℕ → ℕ → α)
    (hv : ∀ j, v j = g (j 1).val (j 2).val) (j : (⟨2, ![n, w]⟩ : Shape).Idx) :
    shapeCast ⟨2, ![n, w]⟩ v h j = g (j 0).val (j 1).val := by
  exact (shapeCast_dropUnit_apply ![n, w] v h j).trans (hv _)

theorem cast2to3 {α : Type} {n w : ℕ} (v : (⟨2, ![n, w]⟩ : Shape).Idx → α) (h) (g : ℕ → ℕ → α)
    (hv : ∀ j, v j = g (j 0).val (j 1).val) (j : (⟨3, ![1, n, w]⟩ : Shape).Idx) :
    shapeCast ⟨3, ![1, n, w]⟩ v h j = g (j 1).val (j 2).val := by
  exact (shapeCast_addUnit_apply ![n, w] v h j).trans (hv _)

theorem cast4to2 {α : Type} {n w : ℕ} (v : (⟨4, ![1, 1, n, w]⟩ : Shape).Idx → α) (h) (g : ℕ → ℕ → α)
    (hv : ∀ j, v j = g (j 2).val (j 3).val) (j : (⟨2, ![n, w]⟩ : Shape).Idx) :
    shapeCast ⟨2, ![n, w]⟩ v h j = g (j 0).val (j 1).val := by
  rw [shapeCast_apply v h j (Fin.cons ⟨0, Nat.one_pos⟩ (Fin.cons ⟨0, Nat.one_pos⟩ j)), hv]
  · rfl
  · show (Shape.rowMajorPi (Matrix.vecCons 1 (Matrix.vecCons 1 ![n, w])) (Fin.cons ⟨0, Nat.one_pos⟩ (Fin.cons ⟨0, Nat.one_pos⟩ j))).val
      = (Shape.rowMajorPi ![n, w] j).val
    rw [Shape.rowMajorPi_succ_val]
    show 0 * _ + (Shape.rowMajorPi (Matrix.vecCons 1 ![n, w]) (Fin.cons ⟨0, Nat.one_pos⟩ j)).val = _
    rw [Shape.rowMajorPi_succ_val]
    show 0 * _ + (0 * _ + (Shape.rowMajorPi ![n, w] j).val) = _
    simp

/-! ## What the kernel stores -/

/-- The left or right half of a staged block, cast. -/
theorem castPay_at {n k0 : ℕ} (v : (⟨3, ![1, n, 1024]⟩ : Shape).Idx → Elt F .f32) (h₁ h₂ h₃) (g : ℕ → ℕ → Elt F .f32)
    (hv : ∀ j, v j = g (j 1).val (j 2).val) (j : (⟨3, ![1, n, 512]⟩ : Shape).Idx) :
    shapeCast ⟨3, ![1, n, 512]⟩ (truncf (F := F) .bf16 (extractStridedSlice ⟨2, ![n, 512]⟩ ![0, k0] (shapeCast ⟨2, ![n, 1024]⟩ v h₁) h₂) bitsLt_bf16_f32) h₃ j
      = FloatOps.truncf .bf16 bitsLt_bf16_f32 (g (j 1).val (k0 + (j 2).val)) := by
  refine cast2to3 _ _ (fun i k => FloatOps.truncf .bf16 bitsLt_bf16_f32 (g i (k0 + k))) (fun j => ?_) j
  refine congrArg (FloatOps.truncf (F := F) .bf16 bitsLt_bf16_f32) ((cast3to2 v h₁ g hv _).trans ?_)
  show g (0 + _) (k0 + _) = _
  rw [Nat.zero_add]; rfl

theorem castPay'_at {n : ℕ} (v : (⟨3, ![1, n, 512]⟩ : Shape).Idx → Elt F .f32) (h₁ h₃) (g : ℕ → ℕ → Elt F .f32)
    (hv : ∀ j, v j = g (j 1).val (j 2).val) (j : (⟨3, ![1, n, 512]⟩ : Shape).Idx) :
    shapeCast ⟨3, ![1, n, 512]⟩ (truncf (F := F) .bf16 (shapeCast ⟨2, ![n, 512]⟩ v h₁) bitsLt_bf16_f32) h₃ j
      = FloatOps.truncf .bf16 bitsLt_bf16_f32 (g (j 1).val (j 2).val) := by
  refine cast2to3 _ _ (fun i k => FloatOps.truncf .bf16 bitsLt_bf16_f32 (g i k)) (fun j => ?_) j
  exact congrArg (FloatOps.truncf (F := F) .bf16 bitsLt_bf16_f32) (cast3to2 v h₁ g hv _)

/-- The sum of a piece of the working buffer and of a landing slot. -/
def accPay (a : Vec F S1x1024x512 .bf16) (b : Vec F S1x1x1024x512 .bf16) : FVec F S1x1024x512 .bf16 :=
  shapeCast S1x1024x512 (addf (shapeCast S1024x512 a shapeCasts_S1x1024x512_S1024x512) (shapeCast S1024x512 b shapeCasts_S1x1x1024x512_S1024x512))
    shapeCasts_S1024x512_S1x1024x512

theorem accPay_at (a : Vec F S1x1024x512 .bf16) (b : Vec F S1x1x1024x512 .bf16) (g g' : ℕ → ℕ → Elt F .bf16)
    (ha : ∀ j, a j = g (j 1).val (j 2).val) (hb : ∀ j, b j = g' (j 2).val (j 3).val) (j : S1x1024x512.Idx) :
    accPay a b j = FloatOps.addf (F := F) (φ := .bf16) (g (j 1).val (j 2).val) (g' (j 1).val (j 2).val) := by
  refine cast2to3 _ _ (fun i k => FloatOps.addf (F := F) (φ := .bf16) (g i k) (g' i k)) (fun j => ?_) j
  exact congrArg₂ (FloatOps.addf (F := F) (φ := .bf16)) (cast3to2 a _ g ha j) (cast4to2 b _ g' hb j)

theorem pay15_eq : @k0_pay15 F _ = accPay := rfl
theorem pay29_eq : @k0_pay29 F _ = accPay := rfl

end Cert.RingProof

end
-- ==== Proof.Program.lean ====
/-
The kernel's program cut into the steps it repeats: each step is written once, for either direction `d` and any transfer
`t`, with the kernel's own slices, and the whole program is their sequence.
-/
module

public import proofs.«01_k».proof.Proof.Contents

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A program of the kernel with no result. -/
abbrev Steps (F : FTy → Type) : Type 1 := Prog (TpuEff nD τ sig (Elt F) Λ₀ .tc) PUnit

/-! ## The kernel's semaphores, devices and slices -/

theorem inb24 (d : Fin 2) (s : Fin 4) : ∀ a, (![d.val, s.val] : Fin 2 → ℕ) a + S1x1.size a ≤ S2x4.size a := by
  revert d s; decide

theorem inb2 (s : Fin 2) : ∀ a, (![s.val] : Fin 1 → ℕ) a + S1.size a ≤ S2.size a := by revert s; decide

def sndT (d : Fin 2) (s : Fin 4) : DmaSem sig :=
  (((cc0_scratch3 : DmaSems sig S2x4).slice (Rect.unit (s := S2x4) ![d.val, s.val] S1x1.size (inb24 d s))).squeeze S_ squeezes_S1x1_S_).sem
def rcvT (d : Fin 2) (s : Fin 4) : DmaSem sig :=
  (((cc0_scratch4 : DmaSems sig S2x4).slice (Rect.unit (s := S2x4) ![d.val, s.val] S1x1.size (inb24 d s))).squeeze S_ squeezes_S1x1_S_).sem
def crdT (d : Fin 2) (s : Fin 4) : Sem sig :=
  (((cc0_scratch5 : Sems sig S2x4).slice (Rect.unit (s := S2x4) ![d.val, s.val] S1x1.size (inb24 d s))).squeeze S_ squeezes_S1x1_S_).sem
def cpyT (s : Fin 2) : DmaSem sig :=
  (((cc0_scratch6 : DmaSems sig S2).slice (Rect.unit (s := S2) ![s.val] S1.size (inb2 s))).squeeze S_ squeezes_S1_S_).sem

theorem sndT_eq (d : Fin 2) (s : Fin 4) : sndT d s = sndS d s := by revert d s; decide +kernel
theorem rcvT_eq (d : Fin 2) (s : Fin 4) : rcvT d s = rcvS d s := by revert d s; decide +kernel
theorem crdT_eq (d : Fin 2) (s : Fin 4) : crdT d s = crdS d s := by revert d s; decide +kernel
theorem cpyT_eq (s : Fin 2) : cpyT s = cpyS s := by revert s; decide +kernel

def toT (d : Fin 2) (c : Dev nD) : Dev nD := if d.val = 0 then ⟨k0_dev2 c, k0_dev2_lt c⟩ else ⟨k0_dev1 c, k0_dev1_lt c⟩
def frT (d : Fin 2) (c : Dev nD) : Dev nD := if d.val = 0 then ⟨k0_dev1 c, k0_dev1_lt c⟩ else ⟨k0_dev2 c, k0_dev2_lt c⟩

theorem toT_eq (d : Fin 2) (c : Dev nD) : toT d c = toD d.val c := by revert d c; decide +kernel
theorem frT_eq (d : Fin 2) (c : Dev nD) : frT d c = frD d.val c := by revert d c; decide +kernel

/-- Which of the two halves of a block, and which hop, transfer `t` carries. -/
def jOf (t : ℕ) : Fin 2 := ⟨t % 2, Nat.mod_lt _ (by decide)⟩
def hOf (t : ℕ) : Fin 3 := ⟨t / 2 % 3, Nat.mod_lt _ (by decide)⟩

/-- Where transfer `t < 8` starts in the working buffer. -/
def wOff (c : Dev nD) (d : Fin 2) (t : ℕ) : Fin 3 → ℕ :=
  if t < 6 then
    if d.val = 0 then k0_off4 c (BitVec.ofNat 32 (hOf t).val) (BitVec.ofNat 32 (1024 * (jOf t).val))
    else k0_off5 c (BitVec.ofNat 32 (hOf t).val) (BitVec.ofNat 32 (1024 * (jOf t).val))
  else
    if d.val = 0 then k0_off15 c (BitVec.ofNat 32 (1024 * (jOf t).val)) else k0_off16 c (BitVec.ofNat 32 (1024 * (jOf t).val))

theorem wOff_inb (c : Dev nD) (d : Fin 2) (t : ℕ) : ∀ a, wOff c d t a + S1x1024x512.size a ≤ S2x8192x512.size a := by
  unfold wOff
  split <;> split
  · exact k0_off4_inb c (hOf t) (jOf t)
  · exact k0_off5_inb c (hOf t) (jOf t)
  · exact k0_off15_inb c (jOf t)
  · exact k0_off16_inb c (jOf t)

theorem wOff_words (c : Dev nD) (d : Fin 2) (t : ℕ) :
    (Rect.unit (s := S2x8192x512) (wOff c d t) S1x1024x512.size (wOff_inb c d t)).WholeWords (EltTy.packing .bf16) := by
  unfold wOff
  split <;> split
  · exact k0_off4_wordsbf16 c (hOf t) (jOf t)
  · exact k0_off5_wordsbf16 c (hOf t) (jOf t)
  · exact k0_off15_wordsbf16 c (jOf t)
  · exact k0_off16_wordsbf16 c (jOf t)

/-- The rows of the working buffer that transfer `t` of direction `d` sends. -/
def wPiece (c : Dev nD) (d : Fin 2) (t : ℕ) : Memref sig .tc .vmem S1024x512 .bf16 :=
  (wM.slice (Rect.unit (s := S2x8192x512) (wOff c d t) S1x1024x512.size (wOff_inb c d t)) (fun _ => rfl)).squeeze S1024x512 squeezes_S1x1024x512_S1024x512

theorem wPiece_exact (c : Dev nD) (d : Fin 2) (t : ℕ) : (wPiece c d t).view.WordExact :=
  (((Memref.isWhole_whole _).wordExact_slice rfl _ (wOff_words c d t)).reshape _ _)

theorem rInb (d : Fin 2) (s : Fin 4) : ∀ a, (![d.val, s.val, 0, 0] : Fin 4 → ℕ) a + S1x1x1024x512.size a ≤ S2x4x1024x512.size a := by
  revert d s; decide

def rRect (d : Fin 2) (s : Fin 4) : Rect S2x4x1024x512 :=
  Rect.unit (s := S2x4x1024x512) ![d.val, s.val, 0, 0] S1x1x1024x512.size (rInb d s)

theorem rWords (d : Fin 2) (s : Fin 4) : (rRect d s).WholeWords (EltTy.packing .bf16) := by
  revert d s
  decide +kernel

/-- Landing slot `s` of direction `d`. -/
def rSlot (d : Fin 2) (s : Fin 4) : Memref sig .tc .vmem S1024x512 .bf16 :=
  (recvM.slice (Rect.unit (s := S2x4x1024x512) ![d.val, s.val, 0, 0] S1x1x1024x512.size (rInb d s)) (fun _ => rfl)).squeeze S1024x512 squeezes_S1x1x1024x512_S1024x512

theorem rSlot_exact (d : Fin 2) (s : Fin 4) : (rSlot d s).view.WordExact :=
  (((Memref.isWhole_whole _).wordExact_slice rfl _ (rWords d s)).reshape _ _)

/-- What transfer `t` of direction `d` sends: rows of the working buffer, or a slot that has landed. -/
def src (c : Dev nD) (d : Fin 2) (t : ℕ) : Memref sig .tc .vmem S1024x512 .bf16 :=
  if t < 8 then wPiece c d t else rSlot d (slot (t - 2))

theorem src_exact (c : Dev nD) (d : Fin 2) (t : ℕ) : (src c d t).view.WordExact := by
  unfold src; split
  · exact wPiece_exact c d t
  · exact rSlot_exact d _

/-- Where transfer `r < 6` is added in the working buffer. -/
def aOff (c : Dev nD) (d : Fin 2) (r : ℕ) : Fin 3 → ℕ :=
  if d.val = 0 then k0_off9 c (BitVec.ofNat 32 (hOf r).val) (BitVec.ofNat 32 (1024 * (jOf r).val))
  else k0_off10 c (BitVec.ofNat 32 (hOf r).val) (BitVec.ofNat 32 (1024 * (jOf r).val))

theorem aOff_inb (c : Dev nD) (d : Fin 2) (r : ℕ) : ∀ a, aOff c d r a + S1x1024x512.size a ≤ S2x8192x512.size a := by
  unfold aOff
  split
  · exact k0_off9_inb c (hOf r) (jOf r)
  · exact k0_off10_inb c (hOf r) (jOf r)

def aRect (c : Dev nD) (d : Fin 2) (r : ℕ) : Rect S2x8192x512 :=
  Rect.unit (s := S2x8192x512) (aOff c d r) S1x1024x512.size (aOff_inb c d r)

theorem aPacked (c : Dev nD) (d : Fin 2) (r : ℕ) : (aRect c d r).PackedRows (EltTy.packing .bf16) := by
  unfold aRect
  unfold aOff
  split
  · exact k0_off9_packedbf16 c (hOf r) (jOf r)
  · exact k0_off10_packedbf16 c (hOf r) (jOf r)

/-- The rows of the working buffer that become rows of the result, and those rows of the result. -/
def owOff (c : Dev nD) (d j : Fin 2) : Fin 3 → ℕ :=
  if d.val = 0 then k0_off11 c (BitVec.ofNat 32 (1024 * j.val)) else k0_off13 c (BitVec.ofNat 32 (1024 * j.val))

theorem owOff_inb (c : Dev nD) (d j : Fin 2) : ∀ a, owOff c d j a + S1x1024x512.size a ≤ S2x8192x512.size a := by
  unfold owOff
  split
  · exact k0_off11_inb c j
  · exact k0_off13_inb c j

def owRect (c : Dev nD) (d j : Fin 2) : Rect S2x8192x512 :=
  Rect.unit (s := S2x8192x512) (owOff c d j) S1x1024x512.size (owOff_inb c d j)

def ooOff (c : Dev nD) (d j : Fin 2) : Fin 2 → ℕ :=
  if d.val = 0 then k0_off12 c (BitVec.ofNat 32 (1024 * j.val)) else k0_off14 c (BitVec.ofNat 32 (1024 * j.val))

theorem ooOff_inb (c : Dev nD) (d j : Fin 2) : ∀ a, ooOff c d j a + S1024x512.size a ≤ S8192x1024.size a := by
  unfold ooOff
  split
  · exact k0_off12_inb c j
  · exact k0_off14_inb c j

def ooRect (c : Dev nD) (d j : Fin 2) : Rect S8192x1024 :=
  Rect.unit (s := S8192x1024) (ooOff c d j) S1024x512.size (ooOff_inb c d j)

theorem ooPacked (c : Dev nD) (d j : Fin 2) : (ooRect c d j).PackedRows (EltTy.packing .bf16) := by
  unfold ooRect
  unfold ooOff
  split
  · exact k0_off12_packedbf16 c j
  · exact k0_off14_packedbf16 c j

/-- The rows of the result that transfer `r ≥ 6` brings. -/
def orOff (c : Dev nD) (d : Fin 2) (r : ℕ) : Fin 2 → ℕ :=
  if d.val = 0 then k0_off17 c (BitVec.ofNat 32 (hOf (r - 6)).val) (BitVec.ofNat 32 (1024 * (jOf r).val))
  else k0_off18 c (BitVec.ofNat 32 (hOf (r - 6)).val) (BitVec.ofNat 32 (1024 * (jOf r).val))

theorem orOff_inb (c : Dev nD) (d : Fin 2) (r : ℕ) : ∀ a, orOff c d r a + S1024x512.size a ≤ S8192x1024.size a := by
  unfold orOff
  split
  · exact k0_off17_inb c (hOf (r - 6)) (jOf r)
  · exact k0_off18_inb c (hOf (r - 6)) (jOf r)

def orRect (c : Dev nD) (d : Fin 2) (r : ℕ) : Rect S8192x1024 :=
  Rect.unit (s := S8192x1024) (orOff c d r) S1024x512.size (orOff_inb c d r)

theorem orPacked (c : Dev nD) (d : Fin 2) (r : ℕ) : (orRect c d r).PackedRows (EltTy.packing .bf16) := by
  unfold orRect
  unfold orOff
  split
  · exact k0_off17_packedbf16 c (hOf (r - 6)) (jOf r)
  · exact k0_off18_packedbf16 c (hOf (r - 6)) (jOf r)

/-! ### Slices of the argument and of the staging slots -/

theorem shInb (j : Fin 2) : ∀ a, (![0, 1024 * j.val, 0] : Fin 3 → ℕ) a + S1x1024x1024.size a ≤ S2x2048x1024.size a := by
  revert j; decide

/-- Half `j` of staging slot `0`, and the rows of the argument copied to it. -/
def sHalf (j : Fin 2) : Memref sig .tc .vmem S1024x1024 .f32 :=
  (stageM.slice (Rect.unit (s := S2x2048x1024) ![0, 1024 * j.val, 0] S1x1024x1024.size (shInb j)) (fun _ => rfl)).squeeze S1024x1024 squeezes_S1x1024x1024_S1024x1024

def xHalf (c : Dev nD) (j : Fin 2) : Memref sig .tc .hbm S1024x1024 .f32 :=
  xM.slice (Rect.unit (s := S8192x1024) (k0_off1 c (BitVec.ofNat 32 (1024 * j.val))) S1024x1024.size (k0_off1_inb c j)) (fun _ => rfl)

theorem ssInb (s : Fin 2) : ∀ a, (![s.val, 0, 0] : Fin 3 → ℕ) a + S1x2048x1024.size a ≤ S2x2048x1024.size a := by
  revert s; decide

/-- Staging slot `s`, and the block of the argument `1 + k` after the device's own. -/
def sSlot (s : Fin 2) : Memref sig .tc .vmem S2048x1024 .f32 :=
  (stageM.slice (Rect.unit (s := S2x2048x1024) ![s.val, 0, 0] S1x2048x1024.size (ssInb s)) (fun _ => rfl)).squeeze S2048x1024 squeezes_S1x2048x1024_S2048x1024

def xBlock (c : Dev nD) (k : Fin 3) : Memref sig .tc .hbm S2048x1024 .f32 :=
  xM.slice (Rect.unit (s := S8192x1024) (k0_off6 c (BitVec.ofNat 32 (1 + k.val))) S2048x1024.size (k0_off6_inb c k)) (fun _ => rfl)

/-- Where half `j` of the device's own block, and the block `1 + k` after it, are cast to. -/
def chOff (c : Dev nD) (d j : Fin 2) : Fin 3 → ℕ :=
  if d.val = 0 then k0_off2 c (BitVec.ofNat 32 (1024 * j.val)) else k0_off3 c (BitVec.ofNat 32 (1024 * j.val))

theorem chOff_inb (c : Dev nD) (d j : Fin 2) : ∀ a, chOff c d j a + S1x1024x512.size a ≤ S2x8192x512.size a := by
  unfold chOff
  split
  · exact k0_off2_inb c j
  · exact k0_off3_inb c j

def chRect (c : Dev nD) (d j : Fin 2) : Rect S2x8192x512 :=
  Rect.unit (s := S2x8192x512) (chOff c d j) S1x1024x512.size (chOff_inb c d j)

theorem chPacked (c : Dev nD) (d j : Fin 2) : (chRect c d j).PackedRows (EltTy.packing .bf16) := by
  unfold chRect
  unfold chOff
  split
  · exact k0_off2_packedbf16 c j
  · exact k0_off3_packedbf16 c j

def cbOff (c : Dev nD) (d : Fin 2) (k : Fin 3) : Fin 3 → ℕ :=
  if d.val = 0 then k0_off7 c (BitVec.ofNat 32 (1 + k.val)) else k0_off8 c (BitVec.ofNat 32 (1 + k.val))

theorem cbOff_inb (c : Dev nD) (d : Fin 2) (k : Fin 3) : ∀ a, cbOff c d k a + S1x2048x512.size a ≤ S2x8192x512.size a := by
  unfold cbOff
  split
  · exact k0_off7_inb c k
  · exact k0_off8_inb c k

def cbRect (c : Dev nD) (d : Fin 2) (k : Fin 3) : Rect S2x8192x512 :=
  Rect.unit (s := S2x8192x512) (cbOff c d k) S1x2048x512.size (cbOff_inb c d k)

theorem cbPacked (c : Dev nD) (d : Fin 2) (k : Fin 3) : (cbRect c d k).PackedRows (EltTy.packing .bf16) := by
  unfold cbRect
  unfold cbOff
  split
  · exact k0_off7_packedbf16 c k
  · exact k0_off8_packedbf16 c k

theorem slInb (s d : Fin 2) : ∀ a, (![s.val, 0, 512 * d.val] : Fin 3 → ℕ) a + S1x2048x512.size a ≤ S2x2048x1024.size a := by
  revert s d; decide

/-! ## The repeated steps -/

/-- Wait for transfer `t` of direction `d` to have been read at its source. -/
def waitSend (c : Dev nD) (d : Fin 2) (t : ℕ) : Steps F :=
  Prog.lift (.waitDma2 (sndT d (slot t)) (rSlot d (slot t)) (src c d t) (rSlot_exact d _) (src_exact c d t))

/-- Wait for transfer `r` of direction `d` to land. -/
def waitRecv (c : Dev nD) (d : Fin 2) (r : ℕ) : Steps F :=
  Prog.lift (.waitDma2 (rcvT d (slot r)) (src c d r) (rSlot d (slot r)) (src_exact c d r) (rSlot_exact d _))

/-- Make transfer `t` of direction `d`. -/
def send (c : Dev nD) (d : Fin 2) (t : ℕ) : Steps F :=
  Prog.lift (.enqueueDma (src c d t) (.remote (Dev.tc (toT d c)) (rSlot d (slot t)) (.dma (sndT d (slot t)))) (.dma (rcvT d (slot t)))
    (src_exact c d t) (rSlot_exact d _) ⟨⟨rfl, Or.inl rfl⟩, trivial⟩)

/-- Allow the sender of direction `d` to use slot `t % 4` again; wait to be allowed. -/
def freeSlot (c : Dev nD) (d : Fin 2) (t : ℕ) : Steps F := semSignalWord (frT d c) (crdT d (slot t)) 1#32
def waitFree (d : Fin 2) (t : ℕ) : Steps F := semWaitWord (crdT d (slot t)) 1#32

/-- Add what transfer `r` brought to the working buffer. -/
def addSlot (c : Dev nD) (d : Fin 2) (r : ℕ) : Steps F := do
  let a ← Prog.lift (.load wM (aRect c d r).toLoadRect (View.loadsAt_vmem h_S1x1024x512))
  let b ← Prog.lift (.load recvM (rRect d (slot r)).toLoadRect (View.loadsAt_vmem h_S1x1x1024x512))
  let _ ← Prog.lift (.load wM (aRect c d r).toLoadRect (View.loadsAt_vmem h_S1x1024x512))
  Prog.lift (.store wM (aRect c d r) (accPay a b) Finset.univ
    (View.stores_vmem h_S1x1024x512 ((Memref.isWhole_whole _).storeExact_slice rfl _ (aPacked c d r)) (fun _ => rfl)) (.inl rfl))

variable (oM : Memref sig .tc .vmem S8192x1024 .bf16) (hoM : oM.IsWhole)

/-- Copy rows of the working buffer, or of a slot, to the result. -/
def outW (c : Dev nD) (d j : Fin 2) : Steps F := do
  let a ← Prog.lift (.load wM (owRect c d j).toLoadRect (View.loadsAt_vmem h_S1x1024x512))
  let _ ← Prog.lift (.load oM (ooRect c d j).toLoadRect (View.loadsAt_vmem h_S1024x512))
  Prog.lift (.store oM (ooRect c d j) (shapeCast S1024x512 a shapeCasts_S1x1024x512_S1024x512) Finset.univ
    (View.stores_vmem h_S1024x512 (hoM.storeExact_slice rfl _ (ooPacked c d j)) (fun _ => rfl)) (.inl rfl))

def outSlot (c : Dev nD) (d : Fin 2) (r : ℕ) : Steps F := do
  let a ← Prog.lift (.load recvM (rRect d (slot r)).toLoadRect (View.loadsAt_vmem h_S1x1x1024x512))
  let _ ← Prog.lift (.load oM (orRect c d r).toLoadRect (View.loadsAt_vmem h_S1024x512))
  Prog.lift (.store oM (orRect c d r) (shapeCast S1024x512 a shapeCasts_S1x1x1024x512_S1024x512) Finset.univ
    (View.stores_vmem h_S1024x512 (hoM.storeExact_slice rfl _ (orPacked c d r)) (fun _ => rfl)) (.inl rfl))

/-- Copies of the argument to the staging slots, and the waits for them. -/
def copyHalf (c : Dev nD) (j : Fin 2) : Steps F :=
  Prog.lift (.enqueueDma (xHalf c j) (.here (sHalf j)) (.dma (cpyT j)) (View.wordExact_bits rfl) ((View.wordExact_bits rfl).reshape _ _) ⟨Or.inl rfl, trivial⟩)
def waitHalf (c : Dev nD) (j : Fin 2) : Steps F :=
  Prog.lift (.waitDma2 (cpyT j) (xHalf c j) (sHalf j) (View.wordExact_bits rfl) ((View.wordExact_bits rfl).reshape _ _))
def copyBlock (c : Dev nD) (s : Fin 2) (k : Fin 3) : Steps F :=
  Prog.lift (.enqueueDma (xBlock c k) (.here (sSlot s)) (.dma (cpyT s)) (View.wordExact_bits rfl) ((View.wordExact_bits rfl).reshape _ _) ⟨Or.inl rfl, trivial⟩)
def waitBlock (c : Dev nD) (s : Fin 2) (k : Fin 3) : Steps F :=
  Prog.lift (.waitDma2 (cpyT s) (xBlock c k) (sSlot s) (View.wordExact_bits rfl) ((View.wordExact_bits rfl).reshape _ _))

/-- What casting the columns of direction `d` of half a block, or of a block, stores. -/
def halfPay (d : Fin 2) (v : Vec F S1x1024x1024 .f32) : FVec F S1x1024x512 .bf16 :=
  if d.val = 0 then k0_pay2 v else k0_pay7 v
def blockPay (v : Vec F S1x2048x512 .f32) : FVec F S1x2048x512 .bf16 := k0_pay10 v

def storeHalf (c : Dev nD) (d j : Fin 2) (v : Vec F S1x1024x1024 .f32) : Steps F := do
  let _ ← Prog.lift (.load wM (chRect c d j).toLoadRect (View.loadsAt_vmem h_S1x1024x512))
  Prog.lift (.store wM (chRect c d j) (halfPay d v) Finset.univ
    (View.stores_vmem h_S1x1024x512 ((Memref.isWhole_whole _).storeExact_slice rfl _ (chPacked c d j)) (fun _ => rfl)) (.inl rfl))

/-- Cast half `j` of the device's own block. -/
def castHalf (c : Dev nD) (j : Fin 2) : Steps F := do
  let v ← Prog.lift (.load stageM (Rect.unit (s := S2x2048x1024) ![0, 1024 * j.val, 0] S1x1024x1024.size (shInb j)).toLoadRect (View.loadsAt_vmem h_S1x1024x1024))
  storeHalf c 0 j v
  storeHalf c 1 j v

/-- Cast the columns of direction `d` of the block in staging slot `s`. -/
def castCols (c : Dev nD) (s : Fin 2) (k : Fin 3) (d : Fin 2) : Steps F := do
  let v ← Prog.lift (.load stageM (Rect.unit (s := S2x2048x1024) ![s.val, 0, 512 * d.val] S1x2048x512.size (slInb s d)).toLoadRect (View.loadsAt_vmem h_S1x2048x512))
  let _ ← Prog.lift (.load wM (cbRect c d k).toLoadRect (View.loadsAt_vmem h_S1x2048x512))
  Prog.lift (.store wM (cbRect c d k) (blockPay v) Finset.univ
    (View.stores_vmem h_S1x2048x512 ((Memref.isWhole_whole _).storeExact_slice rfl _ (cbPacked c d k)) (fun _ => rfl)) (.inl rfl))

def castBlock (c : Dev nD) (s : Fin 2) (k : Fin 3) : Steps F := do
  castCols c s k 0
  castCols c s k 1

/-! ## The program -/

/-- The barrier, the casts, and the first two transfers of each direction. -/
def start (c : Dev nD) : Steps F := do
  semSignalWord (frT 0 c) barS 1#32
  semSignalWord (frT 1 c) barS 1#32
  semWaitWord barS 2#32
  copyHalf c 0
  copyHalf c 1
  waitHalf c 0
  castHalf c 0
  send c 0 0
  send c 1 0
  waitHalf c 1
  castHalf c 1
  send c 0 1
  send c 1 1
  copyBlock c 1 2
  copyBlock c 0 0
  waitBlock c 1 2
  castBlock c 1 2
  copyBlock c 1 1
  waitBlock c 0 0
  castBlock c 0 0
  waitBlock c 1 1
  castBlock c 1 1

/-- Receive transfer `r < 6`, in direction `d`, and add it. -/
def recvAdd (c : Dev nD) (d : Fin 2) (r : ℕ) : Steps F := do
  waitRecv c d r
  addSlot c d r
  freeSlot c d r

/-- Receive transfer `r ≥ 6`, in direction `d`, into the result. -/
def recvOut (c : Dev nD) (d : Fin 2) (r : ℕ) : Steps F := do
  waitRecv c d r
  outSlot oM hoM c d r

def recvBoth (c : Dev nD) (r : ℕ) : Steps F :=
  if r < 6 then do recvAdd c 0 r; recvAdd c 1 r else do recvOut oM hoM c 0 r; recvOut oM hoM c 1 r

def sendFree (c : Dev nD) (d : Fin 2) (t : ℕ) : Steps F := do
  waitFree d t
  send c d t

def doneFree (c : Dev nD) (d : Fin 2) (t : ℕ) : Steps F := do
  waitSend c d (t - 2)
  freeSlot c d t

/-- Steps `2, 3`; `4, 5`; `6, 7`; `8, 9`; `10, 11`; `12, 13`. -/
def roundA (c : Dev nD) (t : ℕ) : Steps F := do
  recvBoth oM hoM c (t - 2)
  send c 0 t
  send c 1 t

def roundB (c : Dev nD) (t : ℕ) : Steps F := do
  recvBoth oM hoM c (t - 2)
  waitSend c 0 (t - 4)
  waitSend c 1 (t - 4)
  sendFree c 0 t
  sendFree c 1 t

def roundC (c : Dev nD) (t : ℕ) : Steps F := do
  recvBoth oM hoM c (t - 2)
  outW oM hoM c 0 (jOf t)
  outW oM hoM c 1 (jOf t)
  waitSend c 0 (t - 4)
  waitSend c 1 (t - 4)
  sendFree c 0 t
  sendFree c 1 t

def roundD (c : Dev nD) (t : ℕ) : Steps F := do
  recvBoth oM hoM c (t - 2)
  waitSend c 0 (t - 4)
  waitSend c 1 (t - 4)
  doneFree c 0 t
  doneFree c 1 t
  sendFree c 0 t
  sendFree c 1 t

def roundE (c : Dev nD) (t : ℕ) : Steps F := do
  recvBoth oM hoM c (t - 2)
  waitSend c 0 (t - 2)
  waitSend c 1 (t - 2)

def clean : Steps F := do
  let c ← Prog.lift .deviceId
  start c
  roundA oM hoM c 2
  roundA oM hoM c 3
  roundB oM hoM c 4
  roundB oM hoM c 5
  roundC oM hoM c 6
  roundC oM hoM c 7
  roundB oM hoM c 8
  roundB oM hoM c 9
  roundD oM hoM c 10
  roundD oM hoM c 11
  roundE oM hoM c 12
  roundE oM hoM c 13

set_option maxHeartbeats 4000000 in
set_option maxRecDepth 100000 in
/-- The kernel's program is the sequence of these steps. -/
theorem body_clean :
    cc0_body (F := F) (Memref.whole main_arg0) (Memref.isWhole_whole _) oM hoM (Memref.whole cc0_scratch0) (Memref.isWhole_whole _)
      (Memref.whole cc0_scratch1) (Memref.isWhole_whole _) (Memref.whole cc0_scratch2) (Memref.isWhole_whole _)
      cc0_scratch3 cc0_scratch4 cc0_scratch5 cc0_scratch6 = clean oM hoM := by
  rw [cc0_body_eq_skeleton]
  rfl

end Cert.RingProof

end
-- ==== Proof.Protocol.lean ====
/-
What each payment of a semaphore hands over, and the pieces of state a device works with.

`Item` names a piece of state without naming the device, `res m c i` is that piece at device `c`, and `holds m c l` is all
the pieces of a list. A transfer is named by its direction `d` and its number `t`, from the sender's side; what a cell's
round hands over is a function of the transfer.
-/
module

public import proofs.«01_k».proof.Proof.Program

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Pieces of buffers -/

def wP (c : Dev nD) (d r0 n : ℕ) (f : Buf (Elt F) ((c : Thread nD τ).loc cc0_scratch0)) : sProp 𝕄 :=
  ((c : Thread nD τ).loc cc0_scratch0) ↦[wSet d r0 n]{fullShare} f
def rP (c : Dev nD) (d s : ℕ) (f : Buf (Elt F) ((c : Thread nD τ).loc cc0_scratch1)) : sProp 𝕄 :=
  ((c : Thread nD τ).loc cc0_scratch1) ↦[rSet d s]{fullShare} f
def sP (c : Dev nD) (s r0 n : ℕ) (f : Buf (Elt F) ((c : Thread nD τ).loc cc0_scratch2)) : sProp 𝕄 :=
  ((c : Thread nD τ).loc cc0_scratch2) ↦[sSet s r0 n]{fullShare} f
def xP (c : Dev nD) (r0 n : ℕ) : sProp 𝕄 :=
  ((c : Thread nD τ).loc main_arg0) ↦[xSet r0 n]{fullShare} (m ((c : Thread nD τ).loc main_arg0))
def oP (c : Dev nD) (d r0 : ℕ) (f : Buf (Elt F) ((c : Thread nD τ).loc cc0_stg0_0)) : sProp 𝕄 :=
  ((c : Thread nD τ).loc cc0_stg0_0) ↦[oSet d r0]{fullShare} f

instance (c : Dev nD) (d r0 n : ℕ) (f) : BI.Storable (upEmb : UEmb _ 𝕄) (wP (F := F) c d r0 n f) := by unfold wP; infer_instance
instance (c : Dev nD) (d s : ℕ) (f) : BI.Storable (upEmb : UEmb _ 𝕄) (rP (F := F) c d s f) := by unfold rP; infer_instance
instance (c : Dev nD) (s r0 n : ℕ) (f) : BI.Storable (upEmb : UEmb _ 𝕄) (sP (F := F) c s r0 n f) := by unfold sP; infer_instance
instance (c : Dev nD) (r0 n : ℕ) : BI.Storable (upEmb : UEmb _ 𝕄) (xP (F := F) m c r0 n) := by unfold xP; infer_instance

/-! ## What the rounds hand over -/

/-- The block of the argument `1 + k` after the device's own. -/
def blk (k : ℕ) (c : Dev nD) : ℕ := (c.val + 1 + k) % 4

/-- The right to make transfer `t`: the receiver's slot, and that the receiver's landing cell has come to `t`'s round. -/
def rightRes (c : Dev nD) (d : Fin 2) (t : ℕ) : sProp 𝕄 :=
  iprop((∃ f, rP (toD d.val c) d.val (slot t).val f) ∗ reached ER (rcvC (toD d.val c) d (slot t)) (t / 4))

/-- A neighbour's signal hands over its four slots for the first transfers. -/
def barPay (c : Dev nD) (d : Fin 2) : sProp 𝕄 :=
  iprop(rightRes c d 0 ∗ rightRes c d 1 ∗ rightRes c d 2 ∗ rightRes c d 3)

/-- What transfer `t` sends from: rows of the working buffer, or a slot. -/
def sndPay (c : Dev nD) (d : Fin 2) (t : ℕ) : sProp 𝕄 :=
  if t < 8 then wP c d.val (row0 d.val t c) 1024 (wAcc m (t / 2) c)
  else rP c d.val (slot (t - 2)).val (rBuf m (t - 2) c)

/-- What has landed, and that the sender's credit cell has come to the round at which the slot is given back. -/
def gotRes (c : Dev nD) (d : Fin 2) (t : ℕ) : sProp 𝕄 := rP c d.val (slot t).val (rBuf m t c)
def rcvPay (c : Dev nD) (d : Fin 2) (t : ℕ) : sProp 𝕄 :=
  iprop(gotRes m c d t ∗ reached ER (crdC (frD d.val c) d (slot t)) (t / 4))

/-- A staged half of the device's own block; a staged block; each with the rows of the argument. -/
def halfRes (c : Dev nD) (j : Fin 2) : sProp 𝕄 := sP c 0 (1024 * j.val) 1024 (sBuf m c.val c)
def blockRes (c : Dev nD) (s : Fin 2) (k : ℕ) : sProp 𝕄 := sP c s.val 0 2048 (sBuf m (blk k c) c)
/-- The block that round `r ≥ 1` of copy cell `s` stages. -/
def kOf (s : Fin 2) (r : ℕ) : ℕ := if s.val = 0 then 0 else 3 - r
def cpyPay (c : Dev nD) (s : Fin 2) (r : ℕ) : sProp 𝕄 :=
  if r = 0 then iprop(halfRes m c s ∗ xP m c (2048 * c.val + 1024 * s.val) 1024)
  else iprop(blockRes m c s (kOf s r) ∗ xP m c (2048 * blk (kOf s r) c) 2048)

instance (c : Dev nD) (d : Fin 2) (t : ℕ) : BI.Storable (upEmb : UEmb _ 𝕄) (rightRes (F := F) c d t) := by unfold rightRes; infer_instance
instance (c : Dev nD) (d : Fin 2) : BI.Storable (upEmb : UEmb _ 𝕄) (barPay (F := F) c d) := by unfold barPay; infer_instance
instance (c : Dev nD) (d : Fin 2) (t : ℕ) : BI.Storable (upEmb : UEmb _ 𝕄) (sndPay m c d t) := by unfold sndPay; split <;> infer_instance
instance (c : Dev nD) (d : Fin 2) (t : ℕ) : BI.Storable (upEmb : UEmb _ 𝕄) (rcvPay m c d t) := by unfold rcvPay gotRes; infer_instance
instance (c : Dev nD) (s : Fin 2) (r : ℕ) : BI.Storable (upEmb : UEmb _ 𝕄) (cpyPay m c s r) := by
  unfold cpyPay halfRes blockRes; split <;> infer_instance

/-! ## The schedule -/

/-- The direction whose slots a barrier signal hands over: `false` is paid by `nxt`, `true` by `prv`. -/
def bDir (b : Bool) : Fin 2 := if b then 1 else 0

def Sch : Rounds.Schedule (GSem nD τ sig) Bool 𝕄 where
  duties g r := match role g.2 with
    | .bar => if r < 1 then Finset.univ else ∅
    | .snd _ _ => if r < 3 then {false} else ∅
    | .rcv _ _ => if r < 3 then {false} else ∅
    | .crd _ _ => if r < 2 then {false} else ∅
    | .cpy s => if r < 2 + s.val then {false} else ∅
    | .other => ∅
  unitless _ := False
  amount g r _ := match role g.2 with
    | .snd _ _ => N
    | .rcv _ _ => N
    | .cpy _ => if r = 0 then Nh else Nc
    | _ => 1
  payload g r b := match role g.2 with
    | .bar => barPay g.1.1 (bDir b)
    | .snd d s => sndPay m g.1.1 d (s.val + 4 * r)
    | .rcv d s => rcvPay m g.1.1 d (s.val + 4 * r)
    | .crd d s => rightRes g.1.1 d (s.val + 4 * r + 4)
    | .cpy s => cpyPay m g.1.1 s r
    | .other => iprop(emp)
  amount_pos g r _ _ := by
    split
    · exact N_pos
    · exact N_pos
    · split
      · exact Nh_pos
      · exact Nc_pos
    · exact Nat.one_pos

instance (g : GSem nD τ sig) (r : ℕ) (b : Bool) : BI.Storable (upEmb : UEmb _ 𝕄) ((Sch m).payload g r b) := by
  dsimp only [Sch]; split <;> infer_instance

section Sched

variable (c : Dev nD) (d : Fin 2) (s : Fin 4) (r t : ℕ) (b : Bool)

theorem duties_bar : (Sch m).duties (barC c) 0 = Finset.univ := by dsimp only [Sch]; rw [role_bar]; rfl
theorem duties_snd (h : t < 12) : (Sch m).duties (sndC c d (slot t)) (t / 4) = {false} := by
  dsimp only [Sch]; rw [role_snd]; exact if_pos (by omega)
theorem duties_rcv (h : t < 12) : (Sch m).duties (rcvC c d (slot t)) (t / 4) = {false} := by
  dsimp only [Sch]; rw [role_rcv]; exact if_pos (by omega)
theorem duties_crd (h : t < 8) : (Sch m).duties (crdC c d (slot t)) (t / 4) = {false} := by
  dsimp only [Sch]; rw [role_crd]; exact if_pos (by omega)
theorem duties_cpy (s : Fin 2) (h : r < 2 + s.val) : (Sch m).duties (cpyC c s) r = {false} := by
  dsimp only [Sch]; rw [role_cpy]; exact if_pos h

theorem amount_bar : (Sch m).amount (barC c) r b = 1 := by dsimp only [Sch]; rw [role_bar]
theorem amount_snd : (Sch m).amount (sndC c d s) r b = N := by dsimp only [Sch]; rw [role_snd]
theorem amount_rcv : (Sch m).amount (rcvC c d s) r b = N := by dsimp only [Sch]; rw [role_rcv]
theorem amount_crd : (Sch m).amount (crdC c d s) r b = 1 := by dsimp only [Sch]; rw [role_crd]
theorem amount_cpy (s : Fin 2) : (Sch m).amount (cpyC c s) r b = if r = 0 then Nh else Nc := by dsimp only [Sch]; rw [role_cpy]

theorem payload_bar : (Sch m).payload (barC c) r b = barPay c (bDir b) := by dsimp only [Sch]; rw [role_bar]
theorem payload_snd : (Sch m).payload (sndC c d (slot t)) (t / 4) b = sndPay m c d t := by
  dsimp only [Sch]; rw [role_snd]; dsimp only; rw [slot_round]
theorem payload_rcv : (Sch m).payload (rcvC c d (slot t)) (t / 4) b = rcvPay m c d t := by
  dsimp only [Sch]; rw [role_rcv]; dsimp only; rw [slot_round]
theorem payload_crd : (Sch m).payload (crdC c d (slot t)) (t / 4) b = rightRes c d (t + 4) := by
  dsimp only [Sch]; rw [role_crd]; dsimp only; rw [slot_round]
theorem payload_cpy (s : Fin 2) : (Sch m).payload (cpyC c s) r b = cpyPay m c s r := by dsimp only [Sch]; rw [role_cpy]

theorem expect_bar : (Sch m).expect (barC c) 0 = 2 := by
  unfold Schedule.expect Schedule.amountOf
  rw [duties_bar, Finset.sum_congr rfl fun b _ => amount_bar m c 0 b, Finset.sum_const, Finset.card_univ, Fintype.card_bool, smul_eq_mul]
theorem expect_snd (h : t < 12) : (Sch m).expect (sndC c d (slot t)) (t / 4) = N := by
  unfold Schedule.expect Schedule.amountOf; rw [duties_snd m c d t h, Finset.sum_singleton, amount_snd]
theorem expect_rcv (h : t < 12) : (Sch m).expect (rcvC c d (slot t)) (t / 4) = N := by
  unfold Schedule.expect Schedule.amountOf; rw [duties_rcv m c d t h, Finset.sum_singleton, amount_rcv]
theorem expect_crd (h : t < 8) : (Sch m).expect (crdC c d (slot t)) (t / 4) = 1 := by
  unfold Schedule.expect Schedule.amountOf; rw [duties_crd m c d t h, Finset.sum_singleton, amount_crd]
theorem expect_cpy (s : Fin 2) (h : r < 2 + s.val) : (Sch m).expect (cpyC c s) r = if r = 0 then Nh else Nc := by
  unfold Schedule.expect Schedule.amountOf; rw [duties_cpy m c r s h, Finset.sum_singleton, amount_cpy]

/-- The rounds at which the cells have no more duties. -/
theorem later_bar : ∀ r', 1 ≤ r' → (Sch m).duties (barC c) r' = ∅ := fun r' h => by
  dsimp only [Sch]; rw [role_bar]; exact if_neg (by omega)
theorem later_snd : ∀ r', 3 ≤ r' → (Sch m).duties (sndC c d s) r' = ∅ := fun r' h => by
  dsimp only [Sch]; rw [role_snd]; exact if_neg (by omega)
theorem later_rcv : ∀ r', 3 ≤ r' → (Sch m).duties (rcvC c d s) r' = ∅ := fun r' h => by
  dsimp only [Sch]; rw [role_rcv]; exact if_neg (by omega)
theorem later_crd : ∀ r', 2 ≤ r' → (Sch m).duties (crdC c d s) r' = ∅ := fun r' h => by
  dsimp only [Sch]; rw [role_crd]; exact if_neg (by omega)
theorem later_cpy (s : Fin 2) : ∀ r', 2 + s.val ≤ r' → (Sch m).duties (cpyC c s) r' = ∅ := fun r' h => by
  dsimp only [Sch]; rw [role_cpy]; exact if_neg (by omega)

end Sched

/-! ## Pieces of state -/

/-- A position of an own cell, with the knowledge that its round is reached. -/
def posRes (g : GSem nD τ sig) (r : ℕ) : sProp 𝕄 := iprop(atPos ER g r ∅ 0 ∗ reached ER g r)

/-- A piece of state of a device:
    * `bTok`, `mine`, `bAt`, `bCr`: the barrier signals' tokens, the slots they hand over, the barrier cell's position and credit;
    * `tok`, `sAt`, `sCr`: a transfer's two tokens, the send cell's position, the credit of a transfer in flight;
    * `rAt`, `rCr`, `cAt`, `cCr`, `sig`: the landing and credit cells' positions and credits, and the tokens of the credits to give;
    * `blank`, `cast`, `pc`: rows of the working buffer not yet written, written with the cast, ready to be sent (from transfer
      `8` on, a slot ready to be sent);
    * `got`, `rch`, `right`: a landed slot, what came with it, and the right to send;
    * `pAt`, `pTok`, `pCr`: the copy cells; `xh`, `xb`: rows of the argument; `sA`, `shA`, `sh`, `sb`: staging slots and halves;
    * `oA`, `oD`: rows of the result before and after they are written. -/
inductive Item where
  | bTok (b : Bool) | mine (d : Fin 2) | bAt (r : ℕ) | bCr
  | tok (d : Fin 2) (t : ℕ) | sAt (d : Fin 2) (t : ℕ) | sCr (d : Fin 2) (t : ℕ)
  | rAt (d : Fin 2) (t : ℕ) | rCr (d : Fin 2) (t : ℕ)
  | cAt (d : Fin 2) (t : ℕ) | cCr (d : Fin 2) (t : ℕ) | sig (d : Fin 2) (t : ℕ)
  | blank (d : Fin 2) (t : ℕ) | cast (d : Fin 2) (t : ℕ) | pc (d : Fin 2) (t : ℕ)
  | got (d : Fin 2) (t : ℕ) | rch (d : Fin 2) (t : ℕ) | right (d : Fin 2) (t : ℕ)
  | pAt (s : Fin 2) (r : ℕ) | pTok (s : Fin 2) (r : ℕ) | pCr (s : Fin 2) (r : ℕ)
  | xh (j : Fin 2) | xb (k : Fin 3) | sA (s : Fin 2) | shA (j : Fin 2) | sh (j : Fin 2) | sb (s : Fin 2) (k : Fin 3)
  | oA (d : Fin 2) (t : ℕ) | oD (d : Fin 2) (t : ℕ)
  deriving DecidableEq

/-- The barrier cell that a signal of direction `d` raises is that of the sender of that direction. -/
def res (c : Dev nD) : Item → sProp 𝕄
  | .bTok b => iprop(dutyTok ER (barC (frD (bDir b).val c)) 0 b ∗ reached ER (barC (frD (bDir b).val c)) 0)
  | .mine d => barPay (frD d.val c) d
  | .bAt r => posRes (barC c) r
  | .bCr => cred (tallyAt (barC c) 0 2)
  | .tok d t => iprop(dutyTok ER (sndC c d (slot t)) (t / 4) false ∗ dutyTok ER (rcvC (toD d.val c) d (slot t)) (t / 4) false)
  | .sAt d t => posRes (sndC c d (slot t)) (t / 4)
  | .sCr d t => cred (tallyAt (sndC c d (slot t)) (t / 4) N)
  | .rAt d t => posRes (rcvC c d (slot t)) (t / 4)
  | .rCr d t => cred (tallyAt (rcvC c d (slot t)) (t / 4) N)
  | .cAt d t => posRes (crdC c d (slot t)) (t / 4)
  | .cCr d t => cred (tallyAt (crdC c d (slot t)) (t / 4) 1)
  | .sig d t => dutyTok ER (crdC (frD d.val c) d (slot t)) (t / 4) false
  | .blank d t => iprop(∃ f, wP c d.val (row0 d.val t c) 1024 f)
  | .cast d t => wP c d.val (row0 d.val t c) 1024 (wAcc m 0 c)
  | .pc d t => sndPay m c d t
  | .got d t => gotRes m c d t
  | .rch d t => reached ER (crdC (frD d.val c) d (slot t)) (t / 4)
  | .right d t => rightRes c d t
  | .pAt s r => posRes (cpyC c s) r
  | .pTok s r => dutyTok ER (cpyC c s) r false
  | .pCr s r => cred (tallyAt (cpyC c s) r (if r = 0 then Nh else Nc))
  | .xh j => xP m c (2048 * c.val + 1024 * j.val) 1024
  | .xb k => xP m c (2048 * blk k.val c) 2048
  | .sA s => iprop(∃ f, sP c s.val 0 2048 f)
  | .shA j => iprop(∃ f, sP c 0 (1024 * j.val) 1024 f)
  | .sh j => halfRes m c j
  | .sb s k => blockRes m c s k.val
  | .oA d t => iprop(∃ f, oP c d.val (row0 d.val t c) f)
  | .oD d t => oP c d.val (row0 d.val t c) (oBuf m)

/-- All the pieces of a list. -/
def holds (c : Dev nD) : List Item → sProp 𝕄
  | [] => iprop(emp)
  | i :: l => iprop(res m c i ∗ holds c l)

theorem holds_append (c : Dev nD) (l₁ l₂ : List Item) : (holds m c (l₁ ++ l₂) : sProp 𝕄) ⊣⊢ iprop(holds m c l₁ ∗ holds m c l₂) := by
  induction l₁ with
  | nil => exact emp_sep.symm
  | cons i l ih => exact (sep_congr_right ih).trans sep_assoc.symm

/-- A piece of a list may be taken out. -/
theorem holds_take (c : Dev nD) {i : Item} : ∀ {l : List Item}, i ∈ l → (holds m c l : sProp 𝕄) ⊢ iprop(res m c i ∗ holds m c (l.erase i))
  | j :: l, h => by
    by_cases e : j = i
    · subst e; rw [List.erase_cons_head]; exact BI.Entails.refl _
    · rw [List.erase_cons_tail (by simpa using e)]
      have hi : i ∈ l := (List.mem_cons.mp h).resolve_left fun h => e h.symm
      show iprop(res m c j ∗ holds m c l) ⊢ iprop(res m c i ∗ res m c j ∗ holds m c (l.erase i))
      iintro ⟨Hj, Hl⟩
      ihave H := (holds_take c hi) $$ Hl
      icases H with ⟨Hi, Hl⟩
      isplitl [Hi]; · iexact Hi
      isplitl [Hj] <;> iassumption

/-- What a device owes, whatever waits it has made. -/
def Ow (c : Dev nD) (l : List Pay) : sProp 𝕄 := iprop(∃ W, owes (c : Thread nD τ) (owed c l) W)

/-- What every device knows: the cells' invariants, at the names they were allocated at, and the levels. -/
def recs (K : Dev nD × Fin 27 → ℕ) : sProp 𝕄 :=
  iprop(bigSep Finset.univ (fun ck => cellInv ER (Sch m) (K ck) (kcell ck)) ∗ levAts L lv)

instance (K : Dev nD × Fin 27 → ℕ) : BI.Persistent (recs m K) := by unfold recs; infer_instance

section Recs

variable (K : Dev nD × Fin 27 → ℕ) (c : Dev nD) (d : Fin 2) (s : Fin 4)

theorem recs_inv (ck : Dev nD × Fin 27) : recs m K ⊢ cellInv ER (Sch m) (K ck) (kcell ck) := by
  unfold recs
  exact sep_elim_left.trans (bigSep_elim (Φ := fun ck => cellInv ER (Sch m) (K ck) (kcell ck)) (Finset.mem_univ ck))

theorem recs_lev : recs m K ⊢ (levAts L lv : sProp 𝕄) := by unfold recs; iintro ⟨-, H⟩; iexact H

theorem recs_bar : recs m K ⊢ cellInv ER (Sch m) (K (c, 0)) (barC c) := recs_inv m K (c, 0)
theorem recs_snd : recs m K ⊢ cellInv ER (Sch m) (K (c, kSnd d s)) (sndC c d s) := by
  have h := recs_inv m K (c, kSnd d s); unfold kcell at h; rw [csem_snd] at h; exact h
theorem recs_rcv : recs m K ⊢ cellInv ER (Sch m) (K (c, kRcv d s)) (rcvC c d s) := by
  have h := recs_inv m K (c, kRcv d s); unfold kcell at h; rw [csem_rcv] at h; exact h
theorem recs_crd : recs m K ⊢ cellInv ER (Sch m) (K (c, kCrd d s)) (crdC c d s) := by
  have h := recs_inv m K (c, kCrd d s); unfold kcell at h; rw [csem_crd] at h; exact h
theorem recs_cpy (s : Fin 2) : recs m K ⊢ cellInv ER (Sch m) (K (c, kCpy s)) (cpyC c s) := by
  have h := recs_inv m K (c, kCpy s); unfold kcell at h; rw [csem_cpy] at h; exact h

end Recs

end Cert.RingProof

end
-- ==== Proof.Slices.lean ====
/-
The kernel's slices in coordinates: which elements each one has, and what it reads of a buffer given in coordinates.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Offsets -/

theorem wOff_eq (c : Dev nD) (d : Fin 2) (t : Fin 8) : wOff c d t.val = ![d.val, row0 d.val t.val c, 0] := by
  revert c d t; decide +kernel
theorem aOff_eq (c : Dev nD) (d : Fin 2) (r : Fin 6) : aOff c d r.val = ![d.val, row0 d.val (r.val + 2) c, 0] := by
  revert c d r; decide +kernel
theorem owOff_eq (c : Dev nD) (d j : Fin 2) : owOff c d j = ![d.val, row0 d.val (6 + j.val) c, 0] := by
  revert c d j; decide +kernel
theorem ooOff_eq (c : Dev nD) (d j : Fin 2) : ooOff c d j = ![row0 d.val (6 + j.val) c, 512 * d.val] := by
  revert c d j; decide +kernel
theorem orOff_eq (c : Dev nD) (d : Fin 2) (r : Fin 6) : orOff c d (6 + r.val) = ![row0 d.val (6 + r.val + 2) c, 512 * d.val] := by
  revert c d r; decide +kernel
theorem chOff_eq (c : Dev nD) (d j : Fin 2) : chOff c d j = ![d.val, row0 d.val j.val c, 0] := by
  revert c d j; decide +kernel
theorem cbOff_eq (c : Dev nD) (d : Fin 2) (k : Fin 3) : cbOff c d k = ![d.val, 2048 * blk k.val c, 0] := by
  revert c d k; decide +kernel
theorem xhOff_eq (c : Dev nD) (j : Fin 2) : k0_off1 c (BitVec.ofNat 32 (1024 * j.val)) = ![2048 * c.val + 1024 * j.val, 0] := by
  revert c j; decide +kernel
theorem xbOff_eq (c : Dev nD) (k : Fin 3) : k0_off6 c (BitVec.ofNat 32 (1 + k.val)) = ![2048 * blk k.val c, 0] := by
  revert c k; decide +kernel

/-- The hop at which a device sends the block `1 + k` after its own. -/
def hopOf (d : Fin 2) (k : Fin 3) : ℕ := if d.val = 0 then 3 - k.val else 1 + k.val

theorem row0_hop (c : Dev nD) (d : Fin 2) (k : Fin 3) : row0 d.val (2 * hopOf d k) c = 2048 * blk k.val c := by
  revert c d k; decide +kernel
theorem row0_hop' (c : Dev nD) (d : Fin 2) (k : Fin 3) : row0 d.val (2 * hopOf d k + 1) c = 2048 * blk k.val c + 1024 := by
  revert c d k; decide +kernel
theorem row0_own (c : Dev nD) (d j : Fin 2) : row0 d.val j.val c = 2048 * c.val + 1024 * j.val := by
  revert c d j; decide +kernel

/-! ## Writing what a buffer reads -/

/-- Writing through a view what a buffer reads through it makes the view's elements those of the buffer. -/
theorem write_of_read {κ : Kind} {sp} {s : Shape} {e : EltTy} (v : View sig κ sp s e) (G f : v.ty.Contents (Elt F)) {w : s.Idx → Elt F e}
    (h : v.read (Elt F) G = w) : ∀ i ∈ v.set, v.write (Elt F) f w Finset.univ i = G i := by
  subst h
  intro i hi
  obtain ⟨x, -, rfl⟩ := Finset.mem_map.mp hi
  rw [View.write_emb_of_mem f _ (Finset.mem_univ x), View.read_apply, cast_cast, cast_eq]

/-! ## The slices -/

section W

variable (c : Dev nD) (d : Fin 2) {t : ℕ} (ht : t < 8)
include ht

theorem wPiece_set : (wPiece c d t).view.set = wSet d.val (row0 d.val t c) 1024 := by
  unfold wPiece
  exact (View.set_reshape _ _).trans <| (View.set_slice_whole _ _).trans (wRect_set (n := 1024) (wOff_eq c d ⟨t, ht⟩))

theorem wPiece_read (g : ℕ → ℕ → ℕ → Elt F .bf16) :
    (wPiece c d t).view.read (Elt F) (wOf g) = fun j => g d.val (row0 d.val t c + (j 0).val) (j 1).val := by
  funext j
  exact cast3to2 (n := 1024) (w := 512) _ _ (fun i k => g d.val (row0 d.val t c + i) k) (fun j => wRect_at (n := 1024) (wOff_eq c d ⟨t, ht⟩) g j) j

end W

section R

variable (d : Fin 2) (s : Fin 4)

theorem rSlot_set : (rSlot d s).view.set = rSet d.val s.val := by
  unfold rSlot
  exact (View.set_reshape _ _).trans <| (View.set_slice_whole _ _).trans (rRect_set rfl)

theorem rSlot_read (g : ℕ → ℕ → ℕ → ℕ → Elt F .bf16) :
    (rSlot d s).view.read (Elt F) (rOf g) = fun j => g d.val s.val (j 0).val (j 1).val := by
  funext j
  exact cast4to2 (n := 1024) (w := 512) _ _ (fun i k => g d.val s.val i k) (fun j => rRect_at (d := d.val) (s := s.val) rfl g j) j

end R

section S

variable (c : Dev nD) (j s : Fin 2) (k : Fin 3)

theorem sHalf_set : (sHalf j).view.set = sSet 0 (1024 * j.val) 1024 := by
  unfold sHalf
  exact (View.set_reshape _ _).trans <| (View.set_slice_whole _ _).trans (sRect_set (n := 1024) rfl)

theorem sHalf_read (g : ℕ → ℕ → ℕ → Elt F .f32) :
    (sHalf j).view.read (Elt F) (sOf g) = fun i => g 0 (1024 * j.val + (i 0).val) (0 + (i 1).val) := by
  funext i
  exact cast3to2 (n := 1024) (w := 1024) _ _ (fun r k => g 0 (1024 * j.val + r) (0 + k)) (fun i => sRect_at (n := 1024) (w := 1024) rfl g i) i

theorem sSlot_set : (sSlot s).view.set = sSet s.val 0 2048 := by
  unfold sSlot
  exact (View.set_reshape _ _).trans <| (View.set_slice_whole _ _).trans (sRect_set (n := 2048) rfl)

theorem sSlot_read (g : ℕ → ℕ → ℕ → Elt F .f32) :
    (sSlot s).view.read (Elt F) (sOf g) = fun i => g s.val (0 + (i 0).val) (0 + (i 1).val) := by
  funext i
  exact cast3to2 (n := 2048) (w := 1024) _ _ (fun r k => g s.val (0 + r) (0 + k)) (fun i => sRect_at (n := 2048) (w := 1024) rfl g i) i

theorem xHalf_set : (xHalf c j).view.set = xSet (2048 * c.val + 1024 * j.val) 1024 :=
  (View.set_slice_whole _ _).trans (xRect_set (n := 1024) (xhOff_eq c j))

theorem xHalf_read (g : ℕ → ℕ → Elt F .f32) :
    (xHalf c j).view.read (Elt F) (xOf g) = fun i => g (2048 * c.val + 1024 * j.val + (i 0).val) (0 + (i 1).val) := by
  funext i; exact xRect_at (n := 1024) (w := 1024) (xhOff_eq c j) g i

theorem xBlock_set : (xBlock c k).view.set = xSet (2048 * blk k.val c) 2048 :=
  (View.set_slice_whole _ _).trans (xRect_set (n := 2048) (xbOff_eq c k))

theorem xBlock_read (g : ℕ → ℕ → Elt F .f32) :
    (xBlock c k).view.read (Elt F) (xOf g) = fun i => g (2048 * blk k.val c + (i 0).val) (0 + (i 1).val) := by
  funext i; exact xRect_at (n := 2048) (w := 1024) (xbOff_eq c k) g i

end S

end Cert.RingProof

end
-- ==== Proof.Waits.lean ====
/-
What a step of the program takes and gives, and the steps that wait at or signal a semaphore.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

local notation "𝕄" => MT nD τ sig ℕ (Elt F) ℕ UU ℕ

abbrev 𝒱₀ : Variants := Variants.none

/-- What has to hold for a program of device `c` to run to a state with `Q`. -/
abbrev run (c : Dev nD) (p : Steps F) (Q : PUnit → sProp 𝕄) : sProp 𝕄 :=
  wp frame (wpE (defs₀ (F := F)) 𝒱₀ (c : Thread nD τ) none) Set.univ p Q

/-- The program `p`, run at device `c` from the pieces `a` owing `l`, comes to the pieces `b` owing `l'`, whatever follows it. -/
def Does (K : Dev nD × Fin 27 → ℕ) (c : Dev nD) (p : Steps F) (l : List Pay) (a : List Item) (l' : List Pay) (b : List Item) : Prop :=
  ∀ (k : PUnit → Steps F) (Q : PUnit → sProp 𝕄),
    iprop(recs m K ∗ Ow c l ∗ holds m c a) ⊢ iprop((iprop(Ow c l' ∗ holds m c b) -∗ run c (k ⟨⟩) Q) -∗ run c (p >>= k) Q)

variable {m} {K : Dev nD × Fin 27 → ℕ} {c : Dev nD}

/-- One step after another. -/
theorem Does.seq {p q : Steps F} {l l' l'' : List Pay} {a b b' : List Item} (hp : Does m K c p l a l' b) (hq : Does m K c q l' b l'' b') :
    Does m K c (p >>= fun _ => q) l a l'' b' := fun k Q => by
  rw [show ((p >>= fun _ => q) >>= k : Steps F) = p >>= fun _ => q >>= k from Prog.bind_assoc _ _ _]
  iintro ⟨#H, HO, Ha⟩ Hk
  iapply (hp _ Q) $$ [HO Ha]
  · isplitr; · iexact H
    isplitl [HO] <;> iassumption
  iintro ⟨HO, Hb⟩
  iapply (hq k Q) $$ [HO Hb]
  · isplitr; · iexact H
    isplitl [HO] <;> iassumption
  iexact Hk

/-- A step leaves other pieces as they are. -/
theorem Does.more {p : Steps F} {l l' : List Pay} {a b : List Item} (hp : Does m K c p l a l' b) (e : List Item) :
    Does m K c p l (a ++ e) l' (b ++ e) := fun k Q => by
  iintro ⟨#H, HO, Ha⟩ Hk
  ihave Ha := (holds_append m c a e).1 $$ Ha
  icases Ha with ⟨Ha, He⟩
  iapply (hp k Q) $$ [HO Ha]
  · isplitr; · iexact H
    isplitl [HO] <;> iassumption
  iintro ⟨HO, Hb⟩
  iapply Hk
  isplitl [HO]; · iexact HO
  iapply (holds_append m c b e).2
  isplitl [Hb] <;> iassumption

/-- No step at all, where the pieces of `a` make those of `b`. -/
theorem Does.none {l : List Pay} {a b : List Item} (h : (holds m c a : sProp 𝕄) ⊢ holds m c b) : Does m K c (.ret ⟨⟩) l a l b := fun k Q => by
  show iprop(recs m K ∗ Ow c l ∗ holds m c a) ⊢ iprop((iprop(Ow c l ∗ holds m c b) -∗ run c (k ⟨⟩) Q) -∗ run c (k ⟨⟩) Q)
  iintro ⟨-, HO, Ha⟩ Hk
  iapply Hk
  isplitl [HO]; · iexact HO
  iapply h; iexact Ha

/-! ## Waits -/

section Levels

variable (c : Dev nD) (d : Fin 2) (s : Fin 4) (r t : ℕ)

theorem lv_bar : lv (barC c) r = 1 := by unfold lv; dsimp only; rw [role_bar]
theorem lv_snd : lv (sndC c d s) r = 0 := by unfold lv; dsimp only; rw [role_snd]
theorem lv_cpy (s : Fin 2) : lv (cpyC c s) r = 0 := by unfold lv; dsimp only; rw [role_cpy]
theorem lv_rcv : lv (rcvC c d (slot t)) (t / 4) = 2 * t + 3 := by
  unfold lv; dsimp only; rw [role_rcv]; dsimp only; rw [slot_round]
theorem lv_crd : lv (crdC c d (slot t)) (t / 4) = 2 * (t + 4) + 2 := by
  unfold lv; dsimp only; rw [role_crd]; dsimp only; rw [slot_round]

end Levels

theorem pos_next (g : Fin 4 → GSem nD τ sig) (t : ℕ) :
    (posRes (g (slot (t + 4))) ((t + 4) / 4) : sProp 𝕄) = posRes (g (slot t)) (t / 4 + 1) := by
  rw [slot_add_four, Nat.add_div_right t (by decide)]

/-- A wait for the whole of a round of one duty. -/
theorem wait_round {w : TpuEff nD τ sig (Elt F) Λ₀ .tc PUnit} {sm : SemLoc sig} {k' r n κ : ℕ} {l : List Pay}
    (hw : ∀ X : PUnit → sProp 𝕄, wpE (defs₀ (F := F)) 𝒱₀ (c : Thread nD τ) none Set.univ w X = waitSpec (c : Thread nD τ) Set.univ sm k' X)
    (hI : recs m K ⊢ cellInv ER (Sch m) κ ((c : Thread nD τ), sm))
    (hd : (Sch m).duties ((c : Thread nD τ), sm) r = {false}) (hk : (Sch m).expect ((c : Thread nD τ), sm) r = k')
    (hr : r < 3) (hn : lv ((c : Thread nD τ), sm) r ≤ n) (hl : above n l = true) (k : PUnit → Steps F) (Q : PUnit → sProp 𝕄) :
    iprop(recs m K ∗ Ow c l ∗ cred (tallyAt ((c : Thread nD τ), sm) r k') ∗ posRes ((c : Thread nD τ), sm) r)
      ⊢ iprop((iprop(Ow c l ∗ posRes ((c : Thread nD τ), sm) (r + 1) ∗ (Sch m).payload ((c : Thread nD τ), sm) r false) -∗ run c (k ⟨⟩) Q)
          -∗ run c (.op w k) Q) := by
  unfold Ow posRes
  iintro ⟨#H, ⟨%W, HO⟩, Hc, Hat, -⟩ Hk
  iapply (Rounds.wp_wait_rest_token 𝒱₀ ER (Sch m) (c : Thread nD τ) none (κ := κ) hw (Set.mem_univ _) r (O := owed c l) (W := W) (R := r) (m := 0)
      (T := ∅) (by rw [Nat.zero_add, hk])) $$ [HO Hc Hat]
  · isplitr; · iapply hI; iexact H
    isplitl [Hc]; · iexact Hc
    isplitl [HO]; · iexact HO
    isplitr; · iapply (mayWait c sm r n l hr hn hl); iapply (recs_lev m K); iexact H
    iexact Hat
  rw [hd, Finset.sdiff_empty, bigSep_singleton]
  iintro ⟨HO, Hat, Hr, Hp⟩
  iapply Hk
  isplitl [HO]; · iexists _; iexact HO
  isplitl [Hat Hr]; · isplitl [Hat] <;> iassumption
  iexact Hp

/-- Waiting for a transfer to have been read at its source. -/
theorem waitSend_does {d : Fin 2} {t : ℕ} {l : List Pay} (ht : t < 12) (hl : above 0 l = true) :
    Does m K c (waitSend c d t) l [.sCr d t, .sAt d t] l [.sAt d (t + 4), .pc d t] := fun k Q => by
  unfold waitSend
  rw [sndT_eq]
  simp only [holds, res, pos_next (fun s => sndC c d s) t]
  iintro ⟨#H, HO, Hc, Hat, -⟩ Hk
  iapply (wait_round (κ := K (c, kSnd d (slot t))) (r := t / 4) (n := 0) (l := l) (wpE_waitDma2_eq 𝒱₀ (c : Thread nD τ) none Set.univ) (recs_snd m K c d (slot t)) (duties_snd m c d t ht)
      (expect_snd m c d t ht) (by omega) (le_of_eq (lv_snd c d _ _)) hl k Q) $$ [HO Hc Hat]
  · isplitr; · iexact H
    isplitl [HO]; · iexact HO
    isplitl [Hc]; · iexact Hc
    iexact Hat
  rw [payload_snd]
  iintro ⟨HO, Hat, Hp⟩
  iapply Hk
  isplitl [HO]; · iexact HO
  isplitl [Hat]; · iexact Hat
  isplitl [Hp]; · iexact Hp
  iempintro

/-- Waiting for a transfer to land. -/
theorem waitRecv_does {d : Fin 2} {t : ℕ} {l : List Pay} (ht : t < 12) (hl : above (2 * t + 3) l = true) :
    Does m K c (waitRecv c d t) l [.rCr d t, .rAt d t] l [.rAt d (t + 4), .got d t, .rch d t] := fun k Q => by
  unfold waitRecv
  rw [rcvT_eq]
  simp only [holds, res, pos_next (fun s => rcvC c d s) t]
  iintro ⟨#H, HO, Hc, Hat, -⟩ Hk
  iapply (wait_round (κ := K (c, kRcv d (slot t))) (r := t / 4) (n := 2 * t + 3) (l := l) (wpE_waitDma2_eq 𝒱₀ (c : Thread nD τ) none Set.univ) (recs_rcv m K c d (slot t))
      (duties_rcv m c d t ht) (expect_rcv m c d t ht) (by omega) (le_of_eq (lv_rcv c d t)) hl k Q) $$ [HO Hc Hat]
  · isplitr; · iexact H
    isplitl [HO]; · iexact HO
    isplitl [Hc]; · iexact Hc
    iexact Hat
  rw [payload_rcv]
  unfold rcvPay
  iintro ⟨HO, Hat, Hg, Hr⟩
  iapply Hk
  isplitl [HO]; · iexact HO
  isplitl [Hat]; · iexact Hat
  isplitl [Hg]; · iexact Hg
  isplitl [Hr]; · iexact Hr
  iempintro

/-- Waiting for the receiver to have read the slot of transfer `t`, to make transfer `t + 4`. -/
theorem waitFree_does {d : Fin 2} {t : ℕ} {l : List Pay} (ht : t < 8) (hl : above (2 * (t + 4) + 2) l = true) :
    Does m K c (waitFree d t) l [.cCr d t, .cAt d t] l [.cAt d (t + 4), .right d (t + 4)] := fun k Q => by
  unfold waitFree
  rw [crdT_eq]
  simp only [holds, res, pos_next (fun s => crdC c d s) t]
  simp only [semWaitWord, Prog.lift, Prog.bind_op, Prog.bind_ret]
  iintro ⟨#H, HO, Hc, Hat, -⟩ Hk
  iapply (wait_round (κ := K (c, kCrd d (slot t))) (r := t / 4) (n := 2 * (t + 4) + 2) (l := l) (wpE_semWait_eq 𝒱₀ (c : Thread nD τ) none Set.univ) (recs_crd m K c d (slot t))
      (duties_crd m c d t ht) ((expect_crd m c d t ht).trans (by decide)) (by omega) (le_of_eq (lv_crd c d t)) hl k Q) $$ [HO Hc Hat]
  · isplitr; · iexact H
    isplitl [HO]; · iexact HO
    isplitl [Hc]; · iexact Hc
    iexact Hat
  rw [payload_crd]
  iintro ⟨HO, Hat, Hp⟩
  iapply Hk
  isplitl [HO]; · iexact HO
  isplitl [Hat]; · iexact Hat
  isplitl [Hp]; · iexact Hp
  iempintro

/-- Waiting for a half of the device's own block, or another block, to be staged. -/
theorem waitHalf_does {j : Fin 2} {l : List Pay} (hl : above 0 l = true) :
    Does m K c (waitHalf c j) l [.pCr j 0, .pAt j 0] l [.pAt j 1, .sh j, .xh j] := fun k Q => by
  unfold waitHalf
  rw [cpyT_eq]
  simp only [holds, res]
  iintro ⟨#H, HO, Hc, Hat, -⟩ Hk
  iapply (wait_round (κ := K (c, kCpy j)) (r := 0) (n := 0) (l := l) (wpE_waitDma2_eq 𝒱₀ (c : Thread nD τ) none Set.univ) (recs_cpy m K c j)
      (duties_cpy m c 0 j (by omega)) (expect_cpy m c 0 j (by omega)) (by omega) (le_of_eq (lv_cpy c 0 j)) hl k Q) $$ [HO Hc Hat]
  · isplitr; · iexact H
    isplitl [HO]; · iexact HO
    isplitl [Hc]; · iexact Hc
    iexact Hat
  rw [payload_cpy, show cpyPay m c j 0 = iprop(halfRes m c j ∗ xP m c (2048 * c.val + 1024 * j.val) 1024) from if_pos rfl]
  iintro ⟨HO, Hat, Hp, Hx⟩
  iapply Hk
  isplitl [HO]; · iexact HO
  isplitl [Hat]; · iexact Hat
  isplitl [Hp]; · iexact Hp
  isplitl [Hx]; · iexact Hx
  iempintro

theorem waitBlock_does {s : Fin 2} {k : Fin 3} {r : ℕ} {l : List Pay} (hr : r < 2 + s.val) (hr0 : r ≠ 0) (hk : kOf s r = k.val) (hl : above 0 l = true) :
    Does m K c (waitBlock c s k) l [.pCr s r, .pAt s r] l [.pAt s (r + 1), .sb s k, .xb k] := fun kk Q => by
  unfold waitBlock
  rw [cpyT_eq]
  simp only [holds, res, if_neg hr0]
  iintro ⟨#H, HO, Hc, Hat, -⟩ Hk
  iapply (wait_round (κ := K (c, kCpy s)) (r := r) (n := 0) (l := l) (wpE_waitDma2_eq 𝒱₀ (c : Thread nD τ) none Set.univ) (recs_cpy m K c s)
      (duties_cpy m c r s hr) ((expect_cpy m c r s hr).trans (if_neg hr0)) (by omega) (le_of_eq (lv_cpy c r s)) hl kk Q) $$ [HO Hc Hat]
  · isplitr; · iexact H
    isplitl [HO]; · iexact HO
    isplitl [Hc]; · iexact Hc
    iexact Hat
  rw [payload_cpy, show cpyPay m c s r = iprop(blockRes m c s k.val ∗ xP m c (2048 * blk k.val c) 2048) from (if_neg hr0).trans (by rw [hk])]
  iintro ⟨HO, Hat, Hp, Hx⟩
  iapply Hk
  isplitl [HO]; · iexact HO
  isplitl [Hat]; · iexact Hat
  isplitl [Hp]; · iexact Hp
  isplitl [Hx]; · iexact Hx
  iempintro

theorem rest_bar : (bigSep ((Sch m).duties (barC c) 0 \ ∅) (fun b => (Sch m).payload (barC c) 0 b) : sProp 𝕄) = iprop(barPay c 0 ∗ barPay c 1) := by
  rw [duties_bar, Finset.sdiff_empty, bigSep_univ_eq_bigSepL [false, true] (by decide) (by decide), bigSepL_cons_cons, bigSepL_singleton, payload_bar, payload_bar]
  rfl

/-- The wait at the barrier: both neighbours' slots come with it. -/
theorem barrier_does {l : List Pay} (hl : above 1 l = true) :
    Does m K c (semWaitWord barS 2#32) l [.bCr, .bAt 0] l
      [.bAt 1, .right 0 0, .right 0 1, .right 0 2, .right 0 3, .right 1 0, .right 1 1, .right 1 2, .right 1 3] := fun k Q => by
  simp only [holds, res, semWaitWord, Prog.lift, Prog.bind_op, Prog.bind_ret]
  unfold Ow posRes
  iintro ⟨#H, ⟨%W, HO⟩, Hc, ⟨Hat, -⟩, -⟩ Hk
  iapply (Rounds.wp_wait_rest_token 𝒱₀ ER (Sch m) (c : Thread nD τ) none (κ := K (c, 0)) (wpE_semWait_eq 𝒱₀ (c : Thread nD τ) none Set.univ) (Set.mem_univ _) 0
      (O := owed c l) (W := W) (R := 0) (m := 0) (T := ∅) (by rw [expect_bar]; decide)) $$ [HO Hc Hat]
  · isplitr; · iapply (recs_bar m K c); iexact H
    isplitl [Hc]; · iexact Hc
    isplitl [HO]; · iexact HO
    isplitr; · iapply (mayWait c (.reg barS) 0 1 l (by decide) (le_of_eq (lv_bar c 0)) hl); iapply (recs_lev m K); iexact H
    iexact Hat
  rw [rest_bar]
  unfold barPay
  iintro ⟨HO, Hat, Hr, ⟨A0, A1, A2, A3⟩, B0, B1, B2, B3⟩
  iapply Hk
  isplitl [HO]; · iexists _; iexact HO
  isplitl [Hat Hr]; · isplitl [Hat] <;> iassumption
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  iempintro

/-! ## Signals -/

/-- Handing the slot of a landed transfer back to its sender. -/
theorem free_does {d : Fin 2} {t : ℕ} {l : List Pay} {i : Item} (ht : t < 8)
    (hi : (res m c i : sProp 𝕄) ⊢ iprop(∃ f, rP c d.val (slot t).val f)) :
    Does m K c (freeSlot c d t) (.crd d t :: l) [.sig d t, .rch d t, .rAt d (t + 4), i] l [.rAt d (t + 4)] := fun k Q => by
  unfold freeSlot
  rw [frT_eq, crdT_eq]
  simp only [holds]
  generalize res m c i = A at hi ⊢
  simp only [res, pos_next (fun s => rcvC c d s) t]
  simp only [semSignalWord, Prog.lift, Prog.bind_op, Prog.bind_ret]
  unfold Ow posRes
  iintro ⟨#H, ⟨%W, HO⟩, Ht, #Hr, ⟨Hat, #Hv⟩, Hi, -⟩ Hk
  iapply (Rounds.wp_signal 𝒱₀ ER (Sch m) (c : Thread nD τ) none (dst := (frD d.val c : Thread nD τ)) (κ := K (frD d.val c, kCrd d (slot t))) (r := t / 4)
      (d := false) (by rw [duties_crd m _ d t ht]; exact Finset.mem_singleton_self _) ((amount_crd m (frD d.val c) d (slot t) (t / 4) false).trans (by decide))
      (t / 4) (owed c l) rfl (W := W)) $$ [HO Ht Hi]
  · isplitr; · iapply (recs_crd m K (frD d.val c) d (slot t)); iexact H
    isplitl [HO]; · iexact HO
    isplitl [Ht]; · iexact Ht
    isplitl [Hi]
    · rw [payload_crd]; unfold rightRes
      rw [toD_frD, slot_add_four, Nat.add_div_right t (by decide)]
      isplitl [Hi]; · iapply hi; iexact Hi
      iexact Hv
    · iexact Hr
  iintro HO
  iapply Hk
  isplitl [HO]; · iexists W; iexact HO
  isplitl [Hat]
  · isplitl [Hat]; · iexact Hat
    iexact Hv
  iempintro

theorem owed_bar (c : Dev nD) (b : Bool) (l : List Pay) :
    owed c (.bar b :: l) = owed c l + tallyAt (barC (frD (bDir b).val c)) 0 1 := by cases b <;> rfl

/-- Signalling a neighbour at the barrier. -/
theorem signal_does {b : Bool} {l : List Pay} :
    Does m K c (semSignalWord (frT (bDir b) c) barS 1#32) (.bar b :: l) [.bTok b, .mine (bDir b)] l [] := fun k Q => by
  rw [frT_eq]
  simp only [holds, res]
  simp only [semSignalWord, Prog.lift, Prog.bind_op, Prog.bind_ret]
  unfold Ow
  iintro ⟨#H, ⟨%W, HO⟩, ⟨Ht, #Hr⟩, Hp, -⟩ Hk
  iapply (Rounds.wp_signal 𝒱₀ ER (Sch m) (c : Thread nD τ) none (dst := (frD (bDir b).val c : Thread nD τ)) (κ := K (frD (bDir b).val c, 0)) (r := 0)
      (d := b) (by rw [duties_bar]; exact Finset.mem_univ _) ((amount_bar m (frD (bDir b).val c) 0 b).trans (by decide))
      0 (owed c l) (owed_bar c b l) (W := W)) $$ [HO Ht Hp]
  · isplitr; · iapply (recs_bar m K (frD (bDir b).val c)); iexact H
    isplitl [HO]; · iexact HO
    isplitl [Ht]; · iexact Ht
    isplitl [Hp]; · rw [payload_bar]; iexact Hp
    iexact Hr
  iintro HO
  iapply Hk
  isplitl [HO]; · iexists W; iexact HO
  iempintro

end Cert.RingProof

end
-- ==== Proof.Moves.lean ====
/-
The steps that move data between buffers: the transfers to the neighbours and the copies of the argument.
-/
module

public import proofs.«01_k».proof.Proof.Slices
public import proofs.«01_k».proof.Proof.Waits

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

local notation "𝕄" => MT nD τ sig ℕ (Elt F) ℕ UU ℕ

/-! ## Pieces of buffers as what the slices have -/

theorem rP_slot (c : Dev nD) (d : Fin 2) (s : Fin 4) (f : S2x4x1024x512.Idx → Elt F .bf16) :
    (rP c d.val s.val f : sProp 𝕄) = ((rSlot d s).view.loc (c : Thread nD τ) ↦[(rSlot d s).view.set]{fullShare} f) :=
  (congrArg (fun S : Finset S2x4x1024x512.Idx => (((c : Thread nD τ).loc cc0_scratch1) ↦[S]{fullShare} f : sProp 𝕄)) (rSlot_set d s)).symm

theorem sP_half (c : Dev nD) (j : Fin 2) (f : S2x2048x1024.Idx → Elt F .f32) :
    (sP c 0 (1024 * j.val) 1024 f : sProp 𝕄) = ((sHalf j).view.loc (c : Thread nD τ) ↦[(sHalf j).view.set]{fullShare} f) :=
  (congrArg (fun S : Finset S2x2048x1024.Idx => (((c : Thread nD τ).loc cc0_scratch2) ↦[S]{fullShare} f : sProp 𝕄)) (sHalf_set j)).symm

theorem sP_slot (c : Dev nD) (s : Fin 2) (f : S2x2048x1024.Idx → Elt F .f32) :
    (sP c s.val 0 2048 f : sProp 𝕄) = ((sSlot s).view.loc (c : Thread nD τ) ↦[(sSlot s).view.set]{fullShare} f) :=
  (congrArg (fun S : Finset S2x2048x1024.Idx => (((c : Thread nD τ).loc cc0_scratch2) ↦[S]{fullShare} f : sProp 𝕄)) (sSlot_set s)).symm

theorem xP_half (c : Dev nD) (j : Fin 2) :
    (xP m c (2048 * c.val + 1024 * j.val) 1024 : sProp 𝕄)
      = ((xHalf c j).view.loc (c : Thread nD τ) ↦[(xHalf c j).view.set]{fullShare} m ((c : Thread nD τ).loc main_arg0)) :=
  (congrArg (fun S : Finset S8192x1024.Idx => (((c : Thread nD τ).loc main_arg0) ↦[S]{fullShare} m ((c : Thread nD τ).loc main_arg0) : sProp 𝕄))
    (xHalf_set c j)).symm

theorem xP_block (c : Dev nD) (k : Fin 3) :
    (xP m c (2048 * blk k.val c) 2048 : sProp 𝕄)
      = ((xBlock c k).view.loc (c : Thread nD τ) ↦[(xBlock c k).view.set]{fullShare} m ((c : Thread nD τ).loc main_arg0)) :=
  (congrArg (fun S : Finset S8192x1024.Idx => (((c : Thread nD τ).loc main_arg0) ↦[S]{fullShare} m ((c : Thread nD τ).loc main_arg0) : sProp 𝕄))
    (xBlock_set c k)).symm

theorem xHalf_arg (c : Dev nD) (j : Fin 2) : (xHalf c j).view.read (Elt F) (m ((c : Thread nD τ).loc main_arg0))
    = fun i => xAt m c (2048 * c.val + 1024 * j.val + (i 0).val) (0 + (i 1).val) :=
  (congrArg (fun f => (xHalf c j).view.read (Elt F) f) (xOf_xAt m c).symm).trans (xHalf_read c j _)

theorem xBlock_arg (c : Dev nD) (k : Fin 3) : (xBlock c k).view.read (Elt F) (m ((c : Thread nD τ).loc main_arg0))
    = fun i => xAt m c (2048 * blk k.val c + (i 0).val) (0 + (i 1).val) :=
  (congrArg (fun f => (xBlock c k).view.read (Elt F) f) (xOf_xAt m c).symm).trans (xBlock_read c k _)

/-- What a transfer sends from, and that it reads there the rows the transfer carries. -/
theorem sndPay_src (c : Dev nD) (d : Fin 2) {t : ℕ} (ht : t < 12) : ∃ fs : Buf (Elt F) ((src c d t).view.loc (c : Thread nD τ)),
    (sndPay m c d t : sProp 𝕄) = ((src c d t).view.loc (c : Thread nD τ) ↦[(src c d t).view.set]{fullShare} fs)
      ∧ (src c d t).view.read (Elt F) fs = fun j => sent m d.val t c (j 0).val (j 1).val := by
  unfold src sndPay
  by_cases h : t < 8
  · rw [if_pos h, if_pos h]
    refine ⟨wAcc m (t / 2) c, (congrArg (fun S : Finset S2x8192x512.Idx =>
      (((c : Thread nD τ).loc cc0_scratch0) ↦[S]{fullShare} wAcc m (t / 2) c : sProp 𝕄)) (wPiece_set c d h)).symm, ?_⟩
    refine (wPiece_read c d h _).trans ?_
    funext j; exact (sent_early m c _ _ h).symm
  · rw [if_neg h, if_neg h]
    refine ⟨rBuf m (t - 2) c, rP_slot c d _ _, (rSlot_read d _ _).trans ?_⟩
    funext j; exact (sent_late m c _ _ (by omega) ht).symm

/-- A slot with what a transfer has written in it. -/
theorem landed (c : Dev nD) (d : Fin 2) (t : ℕ) (f : S2x4x1024x512.Idx → Elt F .bf16) :
    ((rSlot d (slot t)).view.loc (c : Thread nD τ) ↦[(rSlot d (slot t)).view.set]{fullShare}
        (rSlot d (slot t)).view.write (Elt F) f (fun j => sent m d.val t (frD d.val c) (j 0).val (j 1).val) Finset.univ : sProp 𝕄)
      = gotRes m c d t := by
  unfold gotRes
  rw [rP_slot]
  exact pointsTo_congr (write_of_read (rSlot d (slot t)).view (rBuf m t c) f (rSlot_read d (slot t) _))

variable {m} {K : Dev nD × Fin 27 → ℕ} {c : Dev nD}

/-- A transfer, addressed to a device and at semaphores that are those of direction `d` and slot `t % 4`. -/
theorem send_rule {d : Fin 2} {t : ℕ} {l : List Pay} (ht : t < 12) (n : Dev nD) (hn : n = toD d.val c) (q₁ q₂ : DmaSem sig)
    (h₁ : q₁ = sndS d (slot t)) (h₂ : q₂ = rcvS d (slot t))
    {hsc : (rSlot d (slot t) : Memref sig (Dev.tc n : Thread nD τ).2.kind .vmem S1024x512 .bf16).view.ref.isScScratch = false}
    {hsrc : (src c d t).view.WordExact} {hdst : (rSlot d (slot t)).view.WordExact}
    {hsem : DmaTarget.Typed .vmem (.dma q₂) (.remote (Dev.tc n : Thread nD τ) (rSlot d (slot t)) (.dma q₁) hsc)}
    (k : PUnit → Steps F) (Q : PUnit → sProp 𝕄) :
    iprop(recs m K ∗ Ow c (.rcv d t :: l) ∗ holds m c [.tok d t, .pc d t, .right d t, .sAt d t, .cAt d t])
      ⊢ iprop((iprop(Ow c l ∗ holds m c [.sAt d t, .cAt d t, .sCr d t]) -∗ run c (k ⟨⟩) Q)
          -∗ run c (.op (.enqueueDma (src c d t) (.remote (Dev.tc n : Thread nD τ) (rSlot d (slot t)) (.dma q₁) hsc) (.dma q₂) hsrc hdst hsem) k) Q) := by
  subst hn h₁ h₂
  obtain ⟨fs, hp, hr⟩ := sndPay_src m c d ht
  simp only [holds, res, rightRes, posRes]
  unfold Ow
  iintro ⟨#H, ⟨%W, HO⟩, ⟨Ht₁, Ht₂⟩, Hs, ⟨⟨%f, Hd⟩, #Hrv⟩, ⟨Hsa, #Hsr⟩, ⟨Hca, #Hcr⟩, -⟩ Hk
  ihave Hs := (Entails.of_eq hp) $$ Hs
  ihave Hd := (Entails.of_eq (rP_slot (toD d.val c) d (slot t) f)) $$ Hd
  iapply (Rounds.wp_send_pointsTo_with 𝒱₀ ER (Sch m) (c : Thread nD τ) none (c' := (toD d.val c : Thread nD τ)) (κ₁ := K (c, kSnd d (slot t)))
      (κ₂ := K (toD d.val c, kRcv d (slot t))) (r₁ := t / 4) (r₂ := t / 4) (d₁ := false) (d₂ := false) (fd := f) (fs := fs)
      (F := reached ER (crdC c d (slot t)) (t / 4))
      (by rw [duties_snd m c d t ht]; exact Finset.mem_singleton_self _) (by rw [duties_rcv m _ d t ht]; exact Finset.mem_singleton_self _)
      (t / 4) (t / 4) N rfl (amount_snd m c d (slot t) (t / 4) false) (amount_rcv m (toD d.val c) d (slot t) (t / 4) false) (owed c l) rfl (W := W)
      (by rw [payload_snd, hp])
      (by
        rw [payload_rcv]
        unfold rcvPay
        rw [frD_toD]
        refine sep_mono_left (Entails.of_eq (Eq.trans ?_ (landed m (toD d.val c) d t f)))
        rw [hr, frD_toD])) $$ [HO Ht₁ Ht₂ Hs Hd]
  · isplitr; · iapply (recs_snd m K c d (slot t)); iexact H
    isplitr; · iapply (recs_rcv m K (toD d.val c) d (slot t)); iexact H
    isplitl [Hs]; · iexact Hs
    isplitl [Hd]
    · isplitl [Hd]; · iexact Hd
      iexact Hcr
    isplitl [HO]; · iexact HO
    isplitl [Ht₁]; · iexact Ht₁
    isplitr; · iexact Hsr
    isplitl [Ht₂]; · iexact Ht₂
    iexact Hrv
  iintro ⟨Hc, HO⟩
  iapply Hk
  isplitl [HO]; · iexists W; iexact HO
  isplitl [Hsa]
  · isplitl [Hsa]; · iexact Hsa
    iexact Hsr
  isplitl [Hca]
  · isplitl [Hca]; · iexact Hca
    iexact Hcr
  isplitl [Hc]; · iexact Hc
  iempintro

/-- A transfer: what it sends from is to come back, and the receiver's slot goes to the receiver with what it holds. -/
theorem send_does {d : Fin 2} {t : ℕ} {l : List Pay} (ht : t < 12) :
    Does m K c (send c d t) (.rcv d t :: l) [.tok d t, .pc d t, .right d t, .sAt d t, .cAt d t] l [.sAt d t, .cAt d t, .sCr d t] := fun k Q => by
  unfold send
  simp only [Prog.lift, Prog.bind_op, Prog.bind_ret]
  exact send_rule ht (toT d c) (toT_eq d c) _ _ (sndT_eq d _) (rcvT_eq d _) k Q

/-- Staging a half of the device's own block. -/
theorem copyHalf_does {j : Fin 2} {l : List Pay} :
    Does m K c (copyHalf c j) l [.pTok j 0, .pAt j 0, .shA j, .xh j] l [.pAt j 0, .pCr j 0] := fun k Q => by
  unfold copyHalf
  simp only [cpyT_eq]
  simp only [holds, res, posRes, Prog.lift, Prog.bind_op, Prog.bind_ret, xP_half, sP_half]
  iintro ⟨#H, HO, Ht, ⟨Ha, #Hr⟩, ⟨%f, Hs⟩, Hx, -⟩ Hk
  iapply (Rounds.wp_copy_pointsTo 𝒱₀ ER (Sch m) (c : Thread nD τ) none (κ := K (c, kCpy j)) (r := 0) (d := false)
      (by rw [duties_cpy m c 0 j (by omega)]; exact Finset.mem_singleton_self _) 0 Nh rfl ((amount_cpy m c 0 false j).trans (if_pos rfl))
      (by
        rw [payload_cpy, show cpyPay m c j 0 = iprop(halfRes m c j ∗ xP m c (2048 * c.val + 1024 * j.val) 1024) from if_pos rfl, xP_half]
        unfold halfRes; rw [sP_half]
        refine sep_mono_left (Entails.of_eq (pointsTo_congr (write_of_read (sHalf j).view (sBuf m c.val c) f ?_)))
        refine (sHalf_read j _).trans (Eq.trans ?_ (xHalf_arg m c j).symm)
        funext i; exact congrArg (fun r => xAt m c r _) (by omega))) $$ [Ht Hs Hx]
  · isplitr; · iapply (recs_cpy m K c j); iexact H
    isplitl [Hx]; · iexact Hx
    isplitl [Hs]; · iexact Hs
    isplitl [Ht]; · iexact Ht
    iexact Hr
  iintro Hc
  iapply Hk
  isplitl [HO]; · iexact HO
  isplitl [Ha]
  · isplitl [Ha]; · iexact Ha
    iexact Hr
  isplitl [Hc]; · iexact Hc
  iempintro

/-- Staging another block. -/
theorem copyBlock_does {s : Fin 2} {k : Fin 3} {r : ℕ} {l : List Pay} (hr : r < 2 + s.val) (hr0 : r ≠ 0) (hk : kOf s r = k.val) :
    Does m K c (copyBlock c s k) l [.pTok s r, .pAt s r, .sA s, .xb k] l [.pAt s r, .pCr s r] := fun kk Q => by
  unfold copyBlock
  simp only [cpyT_eq]
  simp only [holds, res, posRes, Prog.lift, Prog.bind_op, Prog.bind_ret, xP_block, sP_slot, if_neg hr0]
  iintro ⟨#H, HO, Ht, ⟨Ha, #Hr⟩, ⟨%f, Hs⟩, Hx, -⟩ Hk
  iapply (Rounds.wp_copy_pointsTo 𝒱₀ ER (Sch m) (c : Thread nD τ) none (κ := K (c, kCpy s)) (r := r) (d := false)
      (by rw [duties_cpy m c r s hr]; exact Finset.mem_singleton_self _) r Nc rfl ((amount_cpy m c r false s).trans (if_neg hr0))
      (by
        rw [payload_cpy, show cpyPay m c s r = iprop(blockRes m c s k.val ∗ xP m c (2048 * blk k.val c) 2048) from (if_neg hr0).trans (by rw [hk]), xP_block]
        unfold blockRes; rw [sP_slot]
        refine sep_mono_left (Entails.of_eq (pointsTo_congr (write_of_read (sSlot s).view (sBuf m (blk k.val c) c) f ?_)))
        refine (sSlot_read s _).trans (Eq.trans ?_ (xBlock_arg m c k).symm)
        funext i; exact congrArg (fun r => xAt m c r _) (by omega))) $$ [Ht Hs Hx]
  · isplitr; · iapply (recs_cpy m K c s); iexact H
    isplitl [Hx]; · iexact Hx
    isplitl [Hs]; · iexact Hs
    isplitl [Ht]; · iexact Ht
    iexact Hr
  iintro Hc
  iapply Hk
  isplitl [HO]; · iexact HO
  isplitl [Ha]
  · isplitl [Ha]; · iexact Ha
    iexact Hr
  isplitl [Hc]; · iexact Hc
  iempintro

end Cert.RingProof

end
-- ==== Proof.Stores.lean ====
/-
The steps that load and store: the casts, the additions, and the rows of the result.
-/
module

public import proofs.«01_k».proof.Proof.Moves

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

local notation "𝕄" => MT nD τ sig ℕ (Elt F) ℕ UU ℕ

/-! ## Pieces of buffers as what the rectangles have -/

section Rects

variable (c : Dev nD)

theorem wP_rect (R : Rect S2x8192x512) {d r0 n : ℕ} (h : R.set = wSet d r0 n) (f : S2x8192x512.Idx → Elt F .bf16) :
    (wP c d r0 n f : sProp 𝕄) = ((wM.access R).loc (c : Thread nD τ) ↦[(wM.access R).set]{fullShare} f) :=
  (congrArg (fun S : Finset S2x8192x512.Idx => (((c : Thread nD τ).loc cc0_scratch0) ↦[S]{fullShare} f : sProp 𝕄))
    ((View.set_slice_whole _ _).trans h)).symm

theorem rP_rect (d : Fin 2) (s : Fin 4) (f : S2x4x1024x512.Idx → Elt F .bf16) :
    (rP c d.val s.val f : sProp 𝕄) = ((recvM.access (rRect d s)).loc (c : Thread nD τ) ↦[(recvM.access (rRect d s)).set]{fullShare} f) :=
  (congrArg (fun S : Finset S2x4x1024x512.Idx => (((c : Thread nD τ).loc cc0_scratch1) ↦[S]{fullShare} f : sProp 𝕄))
    ((View.set_slice_whole _ _).trans (rRect_set rfl))).symm

/-- The result's buffer. -/
abbrev oM : Memref sig .tc .vmem S8192x1024 .bf16 := Memref.whole cc0_stg0_0
abbrev hoM : (oM : Memref sig .tc .vmem S8192x1024 .bf16).IsWhole := Memref.isWhole_whole _

theorem oP_rect (R : Rect S8192x1024) {d r0 : ℕ} (h : R.set = oSet d r0) (f : S8192x1024.Idx → Elt F .bf16) :
    (oP c d r0 f : sProp 𝕄) = ((oM.access R).loc (c : Thread nD τ) ↦[(oM.access R).set]{fullShare} f) :=
  (congrArg (fun S : Finset S8192x1024.Idx => (((c : Thread nD τ).loc cc0_stg0_0) ↦[S]{fullShare} f : sProp 𝕄))
    ((View.set_slice_whole _ _).trans h)).symm

/-- Rows of the working buffer once the entries of `G` are stored in them. -/
theorem wStored (R : Rect S2x8192x512) {d r0 n : ℕ} (h : R.set = wSet d r0 n) (f G : S2x8192x512.Idx → Elt F .bf16) {w : R.shape.Idx → Elt F .bf16}
    (hw : ∀ j, w j = G (R.emb j)) :
    ((wM.access R).loc (c : Thread nD τ) ↦[(wM.access R).set]{fullShare} (wM.access R).write (Elt F) f w Finset.univ : sProp 𝕄) = wP c d r0 n G := by
  rw [wP_rect c R h]
  refine pointsTo_congr (write_of_read (wM.access R) G f ?_)
  funext j; exact (hw j).symm

/-- Rows of the result once the entries of `G` are stored in them. -/
theorem oStored (R : Rect S8192x1024) {d r0 : ℕ} (h : R.set = oSet d r0) (f G : S8192x1024.Idx → Elt F .bf16) {w : R.shape.Idx → Elt F .bf16}
    (hw : ∀ j, w j = G (R.emb j)) :
    ((oM.access R).loc (c : Thread nD τ) ↦[(oM.access R).set]{fullShare} (oM.access R).write (Elt F) f w Finset.univ : sProp 𝕄) = oP c d r0 G := by
  rw [oP_rect c R h]
  refine pointsTo_congr (write_of_read (oM.access R) G f ?_)
  funext j; exact (hw j).symm

/-! ### The rectangles of the steps -/

theorem aSet (d : Fin 2) {r : ℕ} (hr : r < 6) : (aRect c d r).set = wSet d.val (row0 d.val (r + 2) c) 1024 := wRect_set (n := 1024) (aOff_eq c d ⟨r, hr⟩)
theorem owSet (d j : Fin 2) : (owRect c d j).set = wSet d.val (row0 d.val (6 + j.val) c) 1024 := wRect_set (n := 1024) (owOff_eq c d j)
theorem chSet (d j : Fin 2) : (chRect c d j).set = wSet d.val (row0 d.val j.val c) 1024 := wRect_set (n := 1024) (chOff_eq c d j)
theorem cbSet (d : Fin 2) (k : Fin 3) : (cbRect c d k).set = wSet d.val (2048 * blk k.val c) 2048 := wRect_set (n := 2048) (cbOff_eq c d k)
theorem ooSet (d j : Fin 2) : (ooRect c d j).set = oSet d.val (row0 d.val (6 + j.val) c) := oRect_set (ooOff_eq c d j)
theorem orOff_late (d : Fin 2) {r : ℕ} (h6 : 6 ≤ r) (h12 : r < 12) : orOff c d r = ![row0 d.val (r + 2) c, 512 * d.val] := by
  have := orOff_eq c d ⟨r - 6, by omega⟩
  rwa [show 6 + (⟨r - 6, by omega⟩ : Fin 6).val = r from by show 6 + (r - 6) = r; omega] at this
theorem orSet (d : Fin 2) {r : ℕ} (h6 : 6 ≤ r) (h12 : r < 12) : (orRect c d r).set = oSet d.val (row0 d.val (r + 2) c) := oRect_set (orOff_late c d h6 h12)

/-! ## Two pieces as one -/

theorem wSet_two (d r0 n n' : ℕ) : wSet d r0 (n + n') = wSet d r0 n ∪ wSet d (r0 + n) n' := by
  ext i; rw [Finset.mem_union, mem_wSet, mem_wSet, mem_wSet]; omega
theorem wSet_disj (d r0 n n' : ℕ) : Disjoint (wSet d r0 n) (wSet d (r0 + n) n') := by
  rw [Finset.disjoint_left]; intro i hi hj; rw [mem_wSet] at hi hj; omega
theorem sSet_two (s r0 n n' : ℕ) : sSet s r0 (n + n') = sSet s r0 n ∪ sSet s (r0 + n) n' := by
  ext i; rw [Finset.mem_union, mem_sSet, mem_sSet, mem_sSet]; omega
theorem sSet_disj (s r0 n n' : ℕ) : Disjoint (sSet s r0 n) (sSet s (r0 + n) n') := by
  rw [Finset.disjoint_left]; intro i hi hj; rw [mem_sSet] at hi hj; omega

theorem wP_two (d r0 n n' : ℕ) (f : S2x8192x512.Idx → Elt F .bf16) :
    (wP c d r0 (n + n') f : sProp 𝕄) ⊣⊢ iprop(wP c d r0 n f ∗ wP c d (r0 + n) n' f) := by
  unfold wP; rw [wSet_two]; exact pointsTo_union (wSet_disj d r0 n n')

theorem wP_join (d r0 n n' : ℕ) (f g : S2x8192x512.Idx → Elt F .bf16) :
    iprop(wP c d r0 n f ∗ wP c d (r0 + n) n' g) ⊢ (iprop(∃ f, wP c d r0 (n + n') f) : sProp 𝕄) := by
  unfold wP; rw [wSet_two]
  iintro H
  iexists _
  iapply (pointsTo_join (wSet_disj d r0 n n')) $$ H

theorem sP_two (s r0 n n' : ℕ) (f : S2x2048x1024.Idx → Elt F .f32) :
    (sP c s r0 (n + n') f : sProp 𝕄) ⊣⊢ iprop(sP c s r0 n f ∗ sP c s (r0 + n) n' f) := by
  unfold sP; rw [sSet_two]; exact pointsTo_union (sSet_disj s r0 n n')

end Rects

/-! ## What is stored -/

section Values

variable (c : Dev nD) (d : Fin 2)

theorem add_at {r : ℕ} (hr : r < 6) (i : S1x1024x512.Idx) :
    accPay ((wM.access (aRect c d r)).read (Elt F) (wAcc m 0 c)) ((recvM.access (rRect d (slot r))).read (Elt F) (rBuf m r c)) i
      = wAcc m ((r + 2) / 2) c ((aRect c d r).emb i) := by
  refine (accPay_at _ _ (fun i k => castAt m c (row0 d.val (r + 2) c + i) (512 * d.val + k)) (fun i k => sent m d.val r (frD d.val c) i k)
    (fun i => wRect_at (n := 1024) (aOff_eq c d ⟨r, hr⟩) (fun d r k => acc m d 0 c r k) i)
    (fun i => rRect_at (d := d.val) (s := (slot r).val) rfl (fun d _ i k => sent m d r (frD d c) i k) i) i).trans
    (Eq.trans ?_ (wRect_at (n := 1024) (aOff_eq c d ⟨r, hr⟩) (fun d i k => acc m d ((r + 2) / 2) c i k) i).symm)
  rw [← sent_step m c _ _ hr, sent_early m c _ _ (by omega)]

theorem outW_at (j : Fin 2) (i : S1024x512.Idx) :
    shapeCast S1024x512 ((wM.access (owRect c d j)).read (Elt F) (wAcc m ((6 + j.val) / 2) c)) shapeCasts_S1x1024x512_S1024x512 i
      = oBuf m ((ooRect c d j).emb i) := by
  refine (cast3to2 (n := 1024) (w := 512) _ _ (fun i k => acc m d.val ((6 + j.val) / 2) c (row0 d.val (6 + j.val) c + i) k)
    (fun i => wRect_at (n := 1024) (owOff_eq c d j) (fun d r k => acc m d ((6 + j.val) / 2) c r k) i) i).trans
    (Eq.trans ?_ (xRect_at (n := 1024) (w := 512) (ooOff_eq c d j) (outAt m) i).symm)
  rw [← sent_early m c _ _ (by omega)]
  exact sent_out m c _ _ (by omega) (by omega) (i 0).isLt (i 1).isLt

theorem outSlot_at {r : ℕ} (h6 : 6 ≤ r) (h12 : r < 12) (i : S1024x512.Idx) :
    shapeCast S1024x512 ((recvM.access (rRect d (slot r))).read (Elt F) (rBuf m r c)) shapeCasts_S1x1x1024x512_S1024x512 i
      = oBuf m ((orRect c d r).emb i) := by
  refine (cast4to2 (n := 1024) (w := 512) _ _ (fun i k => sent m d.val r (frD d.val c) i k)
    (fun i => rRect_at (d := d.val) (s := (slot r).val) rfl (fun d _ i k => sent m d r (frD d c) i k) i) i).trans
    (Eq.trans ?_ (xRect_at (n := 1024) (w := 512) (orOff_late c d h6 h12) (outAt m) i).symm)
  have hrow : row0 d.val (r + 2) c = row0 d.val r (frD d.val c) := by
    unfold row0
    rw [show (r + 2) / 2 = r / 2 + 1 by omega, show (r + 2) % 2 = r % 2 by omega, chunk_succ]
  rw [hrow]
  exact sent_out m (frD d.val c) _ _ h6 h12 (i 0).isLt (i 1).isLt

/-- A staged half of the own block, and the columns of direction `d` of a staged block, as loaded. -/
theorem stageHalf_at (j : Fin 2) (i : S1x1024x1024.Idx) :
    (stageM.access (Rect.unit (s := S2x2048x1024) ![0, 1024 * j.val, 0] S1x1024x1024.size (shInb j))).read (Elt F) (sBuf m c.val c) i
      = xAt m c (2048 * c.val + (1024 * j.val + (i 1).val)) (0 + (i 2).val) :=
  sRect_at (n := 1024) (w := 1024) rfl (fun _ r k => xAt m c (2048 * c.val + r) k) i

theorem blockPay_at (s : Fin 2) (k : Fin 3) (i : S1x2048x512.Idx) :
    blockPay ((stageM.access (Rect.unit (s := S2x2048x1024) ![s.val, 0, 512 * d.val] S1x2048x512.size (slInb s d))).read (Elt F) (sBuf m (blk k.val c) c)) i
      = wAcc m 0 c ((cbRect c d k).emb i) := by
  refine (castPay'_at (n := 2048) _ _ _ (fun r q => xAt m c (2048 * blk k.val c + (0 + r)) (512 * d.val + q))
    (fun i => sRect_at (n := 2048) (w := 512) rfl (fun _ r q => xAt m c (2048 * blk k.val c + r) q) i) i).trans
    (Eq.trans ?_ (wRect_at (n := 2048) (cbOff_eq c d k) (fun d r k => acc m d 0 c r k) i).symm)
  show castAt m c _ _ = castAt m c _ _
  exact congrArg (fun r => castAt m c r _) (by omega)

/-- The rows of a staging slot, or of a half of it, that a load reads. -/
theorem stageHalf_sub (j : Fin 2) :
    (stageM.access (Rect.unit (s := S2x2048x1024) ![0, 1024 * j.val, 0] S1x1024x1024.size (shInb j))).set ⊆ sSet 0 (1024 * j.val) 1024 :=
  subset_of_eq ((View.set_slice_whole _ _).trans (sRect_set (n := 1024) rfl))

theorem stageCols_sub (s : Fin 2) :
    (stageM.access (Rect.unit (s := S2x2048x1024) ![s.val, 0, 512 * d.val] S1x2048x512.size (slInb s d))).set ⊆ sSet s.val 0 2048 := by
  intro i hi
  have hi' : i ∈ (Rect.unit (s := S2x2048x1024) ![s.val, 0, 512 * d.val] S1x2048x512.size (slInb s d)).set := by
    rwa [show (stageM.access (Rect.unit (s := S2x2048x1024) ![s.val, 0, 512 * d.val] S1x2048x512.size (slInb s d))).set = _ from View.set_slice_whole _ _] at hi
  rw [Rect.mem_set_unit] at hi'
  have h0 := hi' 0
  have h1 := hi' 1
  rw [mem_sSet]
  simp at h0 h1
  omega

end Values

/-! ## The casts -/

variable {m} {K : Dev nD × Fin 27 → ℕ} {c : Dev nD}

theorem halfPay_at {d : Fin 2} (v : Vec F S1x1024x1024 .f32) (g : ℕ → ℕ → Elt F .f32) (hv : ∀ i, v i = g (i 1).val (i 2).val) (i : S1x1024x512.Idx) :
    halfPay d v i = FloatOps.truncf .bf16 bitsLt_bf16_f32 (g (i 1).val (512 * d.val + (i 2).val)) := by
  unfold halfPay
  rcases (by omega : d.val = 0 ∨ d.val = 1) with h | h
  · rw [if_pos h, h]
    exact castPay_at (n := 1024) (k0 := 0) v _ _ _ g hv i
  · rw [if_neg (by omega), h]
    exact castPay_at (n := 1024) (k0 := 512) v _ _ _ g hv i

/-- Storing the cast of the columns of direction `d` of a half of the device's own block. -/
theorem storeHalf_rule {d j : Fin 2} (v : Vec F S1x1024x1024 .f32)
    (hv : ∀ i, v i = xAt m c (2048 * c.val + (1024 * j.val + (i 1).val)) (i 2).val) (k : PUnit → Steps F) (Q : PUnit → sProp 𝕄) :
    (res m c (.blank d j.val) : sProp 𝕄) ⊢ iprop((res m c (.pc d j.val) -∗ run c (k ⟨⟩) Q) -∗ run c (storeHalf c d j v >>= k) Q) := by
  simp only [res, storeHalf, Prog.lift, Prog.bind_op, Prog.bind_ret]
  iintro ⟨%f, Hw⟩ Hk
  ihave Hw := (Entails.of_eq (wP_rect c (chRect c d j) (chSet c d j) f)) $$ Hw
  iapply (wp_load_rect 𝒱₀ (c : Thread nD τ) none Set.univ (m := wM) (r := chRect c d j) subset_rfl) $$ Hw; iintro Hw
  iapply (wp_store 𝒱₀ (c : Thread nD τ) none Set.univ (m := wM) (r := chRect c d j) (Mk := Finset.univ) (S := (wM.access (chRect c d j)).set) subset_rfl) $$ Hw; iintro Hw
  iapply Hk
  ihave Hw := (Entails.of_eq (wStored c (chRect c d j) (chSet c d j) f (wAcc m 0 c) (w := halfPay d v) (by
    intro i
    refine (halfPay_at v (fun r k => xAt m c (2048 * c.val + (1024 * j.val + r)) k) hv i).trans
      (Eq.trans ?_ (wRect_at (n := 1024) (chOff_eq c d j) (fun d r k => acc m d 0 c r k) i).symm)
    show castAt m c _ _ = castAt m c _ _
    rw [row0_own]
    exact congrArg (fun r => castAt m c r _) (by omega)))) $$ Hw
  rw [show sndPay m c d j.val = wP c d.val (row0 d.val j.val c) 1024 (wAcc m 0 c) from (if_pos (by omega)).trans (by rw [show j.val / 2 = 0 by omega])]
  iexact Hw

/-- Casting a half of the device's own block. -/
theorem castHalf_does {j : Fin 2} {l : List Pay} :
    Does m K c (castHalf c j) l [.sh j, .blank 0 j.val, .blank 1 j.val] l [.sh j, .pc 0 j.val, .pc 1 j.val] := fun k Q => by
  have e : (castHalf c j >>= k : Steps F) = .op (.load stageM (Rect.unit (s := S2x2048x1024) ![0, 1024 * j.val, 0] S1x1024x1024.size (shInb j)).toLoadRect
      (View.loadsAt_vmem h_S1x1024x1024)) fun v => storeHalf c 0 j v >>= fun _ => storeHalf c 1 j v >>= k := by
    simp only [castHalf, Prog.lift, Prog.bind_op, Prog.bind_ret, Prog.bind_assoc]
  rw [e]
  simp only [holds]
  rw [show (res m c (.sh j) : sProp 𝕄) = (((c : Thread nD τ).loc cc0_scratch2) ↦[sSet 0 (1024 * j.val) 1024]{fullShare} sBuf m c.val c) from rfl]
  iintro ⟨-, HO, Hs, H0, H1, -⟩ Hk
  iapply (wp_load_rect 𝒱₀ (c : Thread nD τ) none Set.univ (m := stageM)
    (r := Rect.unit (s := S2x2048x1024) ![0, 1024 * j.val, 0] S1x1024x1024.size (shInb j)) (stageHalf_sub j)) $$ Hs; iintro Hs
  have hv : ∀ i, (stageM.access (Rect.unit (s := S2x2048x1024) ![0, 1024 * j.val, 0] S1x1024x1024.size (shInb j))).read (Elt F) (sBuf m c.val c) i
      = xAt m c (2048 * c.val + (1024 * j.val + (i 1).val)) (i 2).val := fun i => (stageHalf_at m c j i).trans (by rw [Nat.zero_add])
  iapply (storeHalf_rule _ hv _ Q) $$ H0; iintro H0
  iapply (storeHalf_rule _ hv _ Q) $$ H1; iintro H1
  iapply Hk
  isplitl [HO]; · iexact HO
  isplitl [Hs]; · iexact Hs
  isplitl [H0]; · iexact H0
  isplitl [H1]; · iexact H1
  iempintro

/-- Casting the columns of direction `d` of the block in staging slot `s`. -/
theorem castCols_does {s d : Fin 2} {k : Fin 3} {l : List Pay} :
    Does m K c (castCols c s k d) l [.sb s k, .blank d (2 * hopOf d k), .blank d (2 * hopOf d k + 1)] l
      [.sb s k, .cast d (2 * hopOf d k), .cast d (2 * hopOf d k + 1)] := fun kk Q => by
  simp only [holds, res, castCols, Prog.lift, Prog.bind_op, Prog.bind_ret, row0_hop, row0_hop']
  rw [show (blockRes m c s k.val : sProp 𝕄) = (((c : Thread nD τ).loc cc0_scratch2) ↦[sSet s.val 0 2048]{fullShare} sBuf m (blk k.val c) c) from rfl]
  iintro ⟨-, HO, Hs, ⟨%f, H0⟩, ⟨%g, H1⟩, -⟩ Hk
  ihave Hw := (wP_join c d.val (2048 * blk k.val c) 1024 1024 f g) $$ [H0 H1]
  · isplitl [H0] <;> iassumption
  icases Hw with ⟨%h, Hw⟩
  ihave Hw := (Entails.of_eq (wP_rect c (cbRect c d k) (cbSet c d k) h)) $$ Hw
  iapply (wp_load_rect 𝒱₀ (c : Thread nD τ) none Set.univ (m := stageM)
    (r := Rect.unit (s := S2x2048x1024) ![s.val, 0, 512 * d.val] S1x2048x512.size (slInb s d)) (stageCols_sub d s)) $$ Hs; iintro Hs
  iapply (wp_load_rect 𝒱₀ (c : Thread nD τ) none Set.univ (m := wM) (r := cbRect c d k) subset_rfl) $$ Hw; iintro Hw
  iapply (wp_store 𝒱₀ (c : Thread nD τ) none Set.univ (m := wM) (r := cbRect c d k) (Mk := Finset.univ) (S := (wM.access (cbRect c d k)).set) subset_rfl) $$ Hw; iintro Hw
  iapply Hk
  ihave Hw := (Entails.of_eq (wStored c (cbRect c d k) (cbSet c d k) h (wAcc m 0 c) (blockPay_at m c d s k))) $$ Hw
  ihave Hw := (wP_two c d.val (2048 * blk k.val c) 1024 1024 (wAcc m 0 c)).1 $$ Hw
  icases Hw with ⟨H0, H1⟩
  isplitl [HO]; · iexact HO
  isplitl [Hs]; · iexact Hs
  isplitl [H0]; · iexact H0
  isplitl [H1]; · iexact H1
  iempintro

/-! ## The additions -/

/-- Adding what has landed. -/
theorem addSlot_does {d : Fin 2} {r : ℕ} {l : List Pay} (hr : r < 6) :
    Does m K c (addSlot c d r) l [.cast d (r + 2), .got d r] l [.pc d (r + 2), .got d r] := fun k Q => by
  simp only [holds, res, gotRes, addSlot, Prog.lift, Prog.bind_op, Prog.bind_ret]
  iintro ⟨-, HO, Hw, Hg, -⟩ Hk
  ihave Hw := (Entails.of_eq (wP_rect c (aRect c d r) (aSet c d hr) (wAcc m 0 c))) $$ Hw
  ihave Hg := (Entails.of_eq (rP_rect c d (slot r) (rBuf m r c))) $$ Hg
  iapply (wp_load_rect 𝒱₀ (c : Thread nD τ) none Set.univ (m := wM) (r := aRect c d r) subset_rfl) $$ Hw; iintro Hw
  iapply (wp_load_rect 𝒱₀ (c : Thread nD τ) none Set.univ (m := recvM) (r := rRect d (slot r)) subset_rfl) $$ Hg; iintro Hg
  iapply (wp_load_rect 𝒱₀ (c : Thread nD τ) none Set.univ (m := wM) (r := aRect c d r) subset_rfl) $$ Hw; iintro Hw
  iapply (wp_store 𝒱₀ (c : Thread nD τ) none Set.univ (m := wM) (r := aRect c d r) (Mk := Finset.univ) (S := (wM.access (aRect c d r)).set) subset_rfl) $$ Hw; iintro Hw
  iapply Hk
  isplitl [HO]; · iexact HO
  isplitl [Hw]
  · ihave Hw := (Entails.of_eq (wStored c (aRect c d r) (aSet c d hr) (wAcc m 0 c) (wAcc m ((r + 2) / 2) c) (add_at m c d hr))) $$ Hw
    rw [show sndPay m c d (r + 2) = wP c d.val (row0 d.val (r + 2) c) 1024 (wAcc m ((r + 2) / 2) c) from if_pos (by omega)]
    iexact Hw
  isplitl [Hg]
  · rw [rP_rect]; iexact Hg
  iempintro

/-! ## The result -/

/-- Rows of the result that are complete in the working buffer. -/
theorem outW_does {d j : Fin 2} {l : List Pay} :
    Does m K c (outW oM hoM c d j) l [.pc d (6 + j.val), .oA d (6 + j.val)] l [.pc d (6 + j.val), .oD d (6 + j.val)] := fun k Q => by
  simp only [holds, res, outW, Prog.lift, Prog.bind_op, Prog.bind_ret]
  rw [show sndPay m c d (6 + j.val) = wP c d.val (row0 d.val (6 + j.val) c) 1024 (wAcc m ((6 + j.val) / 2) c) from if_pos (by omega)]
  iintro ⟨-, HO, Hw, ⟨%f, Ho⟩, -⟩ Hk
  ihave Hw := (Entails.of_eq (wP_rect c (owRect c d j) (owSet c d j) (wAcc m ((6 + j.val) / 2) c))) $$ Hw
  ihave Ho := (Entails.of_eq (oP_rect c (ooRect c d j) (ooSet c d j) f)) $$ Ho
  iapply (wp_load_rect 𝒱₀ (c : Thread nD τ) none Set.univ (m := wM) (r := owRect c d j) subset_rfl) $$ Hw; iintro Hw
  iapply (wp_load_rect 𝒱₀ (c : Thread nD τ) none Set.univ (m := oM) (r := ooRect c d j) subset_rfl) $$ Ho; iintro Ho
  iapply (wp_store 𝒱₀ (c : Thread nD τ) none Set.univ (m := oM) (r := ooRect c d j) (Mk := Finset.univ) (S := (oM.access (ooRect c d j)).set) subset_rfl) $$ Ho; iintro Ho
  iapply Hk
  isplitl [HO]; · iexact HO
  isplitl [Hw]
  · rw [wP_rect c (owRect c d j) (owSet c d j)]; iexact Hw
  isplitl [Ho]
  · ihave Ho := (Entails.of_eq (oStored c (ooRect c d j) (ooSet c d j) f (oBuf m) (outW_at m c d j))) $$ Ho
    iexact Ho
  iempintro

/-- Rows of the result that have landed. -/
theorem outSlot_does {d : Fin 2} {r : ℕ} {l : List Pay} (h6 : 6 ≤ r) (h12 : r < 12) :
    Does m K c (outSlot oM hoM c d r) l [.got d r, .oA d (r + 2)] l [.pc d (r + 2), .oD d (r + 2)] := fun k Q => by
  simp only [holds, res, gotRes, outSlot, Prog.lift, Prog.bind_op, Prog.bind_ret]
  rw [show sndPay m c d (r + 2) = rP c d.val (slot r).val (rBuf m r c) from if_neg (by omega)]
  iintro ⟨-, HO, Hg, ⟨%f, Ho⟩, -⟩ Hk
  ihave Hg := (Entails.of_eq (rP_rect c d (slot r) (rBuf m r c))) $$ Hg
  ihave Ho := (Entails.of_eq (oP_rect c (orRect c d r) (orSet c d h6 h12) f)) $$ Ho
  iapply (wp_load_rect 𝒱₀ (c : Thread nD τ) none Set.univ (m := recvM) (r := rRect d (slot r)) subset_rfl) $$ Hg; iintro Hg
  iapply (wp_load_rect 𝒱₀ (c : Thread nD τ) none Set.univ (m := oM) (r := orRect c d r) subset_rfl) $$ Ho; iintro Ho
  iapply (wp_store 𝒱₀ (c : Thread nD τ) none Set.univ (m := oM) (r := orRect c d r) (Mk := Finset.univ) (S := (oM.access (orRect c d r)).set) subset_rfl) $$ Ho; iintro Ho
  iapply Hk
  isplitl [HO]; · iexact HO
  isplitl [Hg]
  · rw [rP_rect]; iexact Hg
  isplitl [Ho]
  · ihave Ho := (Entails.of_eq (oStored c (orRect c d r) (orSet c d h6 h12) f (oBuf m) (outSlot_at m c d h6 h12))) $$ Ho
    iexact Ho
  iempintro

end Cert.RingProof

end
-- ==== Proof.Run.lean ====
/-
The kernel's program as a list of steps, run on a device's pieces of state.

Every step has the pieces it takes and gives, and what it pays. A walk through the list, which is a computation on lists of
names, shows that each step finds its pieces, that the payments are made in order, and that no wait is for something that
depends on a payment still owed.
-/
module

public import proofs.«01_k».proof.Proof.Stores

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

local notation "𝕄" => MT nD τ sig ℕ (Elt F) ℕ UU ℕ

/-- A step. `merge` and `reuse` are not steps of the program: two staged halves, or a staged block, that are used no more. -/
inductive Act where
  | signal (b : Bool) | barrier
  | copyHalf (j : Fin 2) | waitHalf (j : Fin 2) | castHalf (j : Fin 2)
  | copyBlock (s : Fin 2) (k : Fin 3) (r : ℕ) | waitBlock (s : Fin 2) (k : Fin 3) (r : ℕ) | castCols (s : Fin 2) (k : Fin 3) (d : Fin 2)
  | merge | reuse (s : Fin 2) (k : Fin 3)
  | send (d : Fin 2) (t : ℕ) | waitSend (d : Fin 2) (t : ℕ) | waitRecv (d : Fin 2) (t : ℕ) | waitFree (d : Fin 2) (t : ℕ)
  | free (d : Fin 2) (t : ℕ) | add (d : Fin 2) (t : ℕ) | outW (d j : Fin 2) | outSlot (d : Fin 2) (t : ℕ)

namespace Act

/-- The program of a step. -/
def prog (c : Dev nD) : Act → Steps F
  | .signal b => semSignalWord (frT (bDir b) c) barS 1#32
  | .barrier => semWaitWord barS 2#32
  | .copyHalf j => RingProof.copyHalf c j
  | .waitHalf j => RingProof.waitHalf c j
  | .castHalf j => RingProof.castHalf c j
  | .copyBlock s k _ => RingProof.copyBlock c s k
  | .waitBlock s k _ => RingProof.waitBlock c s k
  | .castCols s k d => RingProof.castCols c s k d
  | .merge => .ret ⟨⟩
  | .reuse _ _ => .ret ⟨⟩
  | .send d t => RingProof.send c d t
  | .waitSend d t => RingProof.waitSend c d t
  | .waitRecv d t => RingProof.waitRecv c d t
  | .waitFree d t => RingProof.waitFree d t
  | .free d t => RingProof.freeSlot c d t
  | .add d t => RingProof.addSlot c d t
  | .outW d j => RingProof.outW oM hoM c d j
  | .outSlot d t => RingProof.outSlot oM hoM c d t

/-- The slot that is handed back after transfer `t` has landed: as it landed, or after it was sent on. -/
def freed (d : Fin 2) (t : ℕ) : Item := if t < 6 then .got d t else .pc d (t + 2)

/-- The pieces that a step takes, and those that it gives. -/
def ins : Act → List Item
  | .signal b => [.bTok b, .mine (bDir b)]
  | .barrier => [.bCr, .bAt 0]
  | .copyHalf j => [.pTok j 0, .pAt j 0, .shA j, .xh j]
  | .waitHalf j => [.pCr j 0, .pAt j 0]
  | .castHalf j => [.sh j, .blank 0 j.val, .blank 1 j.val]
  | .copyBlock s k r => [.pTok s r, .pAt s r, .sA s, .xb k]
  | .waitBlock s _ r => [.pCr s r, .pAt s r]
  | .castCols s k d => [.sb s k, .blank d (2 * hopOf d k), .blank d (2 * hopOf d k + 1)]
  | .merge => [.sh 0, .sh 1]
  | .reuse s k => [.sb s k]
  | .send d t => [.tok d t, .pc d t, .right d t, .sAt d t, .cAt d t]
  | .waitSend d t => [.sCr d t, .sAt d t]
  | .waitRecv d t => [.rCr d t, .rAt d t]
  | .waitFree d t => [.cCr d t, .cAt d t]
  | .free d t => [.sig d t, .rch d t, .rAt d (t + 4), freed d t]
  | .add d t => [.cast d (t + 2), .got d t]
  | .outW d j => [.pc d (6 + j.val), .oA d (6 + j.val)]
  | .outSlot d t => [.got d t, .oA d (t + 2)]

def outs : Act → List Item
  | .signal _ => []
  | .barrier => [.bAt 1, .right 0 0, .right 0 1, .right 0 2, .right 0 3, .right 1 0, .right 1 1, .right 1 2, .right 1 3]
  | .copyHalf j => [.pAt j 0, .pCr j 0]
  | .waitHalf j => [.pAt j 1, .sh j, .xh j]
  | .castHalf j => [.sh j, .pc 0 j.val, .pc 1 j.val]
  | .copyBlock s _ r => [.pAt s r, .pCr s r]
  | .waitBlock s k r => [.pAt s (r + 1), .sb s k, .xb k]
  | .castCols s k d => [.sb s k, .cast d (2 * hopOf d k), .cast d (2 * hopOf d k + 1)]
  | .merge => [.sA 0]
  | .reuse s _ => [.sA s]
  | .send d t => [.sAt d t, .cAt d t, .sCr d t]
  | .waitSend d t => [.sAt d (t + 4), .pc d t]
  | .waitRecv d t => [.rAt d (t + 4), .got d t, .rch d t]
  | .waitFree d t => [.cAt d (t + 4), .right d (t + 4)]
  | .free d t => [.rAt d (t + 4)]
  | .add d t => [.pc d (t + 2), .got d t]
  | .outW d j => [.pc d (6 + j.val), .oD d (6 + j.val)]
  | .outSlot d t => [.pc d (t + 2), .oD d (t + 2)]

/-- What a step pays. -/
def pay : Act → List Pay
  | .signal b => [.bar b]
  | .send d t => [.rcv d t]
  | .free d t => [.crd d t]
  | _ => []

/-- When a step may be made, owing `l` after it. -/
def ok (l : List Pay) : Act → Bool
  | .barrier => above 1 l
  | .waitHalf _ => above 0 l
  | .copyBlock s k r => decide (r < 2 + s.val) && decide (r ≠ 0) && decide (kOf s r = k.val)
  | .waitBlock s k r => decide (r < 2 + s.val) && decide (r ≠ 0) && decide (kOf s r = k.val) && above 0 l
  | .send _ t => decide (t < 12)
  | .waitSend _ t => decide (t < 12) && above 0 l
  | .waitRecv _ t => decide (t < 12) && above (2 * t + 3) l
  | .waitFree _ t => decide (t < 8) && above (2 * (t + 4) + 2) l
  | .free _ t => decide (t < 8)
  | .add _ t => decide (t < 6)
  | .outSlot _ t => decide (6 ≤ t) && decide (t < 12)
  | _ => true

end Act

variable {m} {K : Dev nD × Fin 27 → ℕ} {c : Dev nD}

theorem merge_halves : (holds m c [.sh 0, .sh 1] : sProp 𝕄) ⊢ holds m c [.sA 0] := by
  simp only [holds, res]
  unfold halfRes
  iintro ⟨H0, H1, -⟩
  isplitl [H0 H1]
  · iexists _
    iapply (sP_two c 0 0 1024 1024 (sBuf m c.val c)).2
    isplitl [H0]
    · iexact H0
    · iexact H1
  · iempintro

theorem reuse_slot (s : Fin 2) (k : Fin 3) : (holds m c [.sb s k] : sProp 𝕄) ⊢ holds m c [.sA s] := by
  simp only [holds, res]
  unfold blockRes
  iintro ⟨H, -⟩
  isplitl [H]
  · iexists _; iexact H
  · iempintro

theorem freed_slot (d : Fin 2) {t : ℕ} (ht : t < 8) : (res m c (Act.freed d t) : sProp 𝕄) ⊢ iprop(∃ f, rP c d.val (slot t).val f) := by
  unfold Act.freed
  by_cases h : t < 6
  · rw [if_pos h]
    simp only [res, gotRes]
    iintro H; iexists _; iexact H
  · rw [if_neg h]
    simp only [res]
    rw [show sndPay m c d (t + 2) = rP c d.val (slot t).val (rBuf m t c) from if_neg (by omega)]
    iintro H; iexists _; iexact H

/-- Every step does what its pieces say. -/
theorem Act.does (a : Act) (l : List Pay) (h : a.ok l = true) : Does m K c (a.prog c) (a.pay ++ l) a.ins l a.outs := by
  cases a <;> simp only [Act.ok, Bool.and_eq_true, decide_eq_true_eq] at h
  case signal b => exact signal_does
  case barrier => exact barrier_does h
  case copyHalf j => exact copyHalf_does
  case waitHalf j => exact waitHalf_does h
  case castHalf j => exact castHalf_does
  case copyBlock s k r => exact copyBlock_does h.1.1 h.1.2 h.2
  case waitBlock s k r => exact waitBlock_does h.1.1.1 h.1.1.2 h.1.2 h.2
  case castCols s k d => exact castCols_does
  case merge => exact Does.none merge_halves
  case reuse s k => exact Does.none (reuse_slot s k)
  case send d t => exact send_does h
  case waitSend d t => exact waitSend_does h.1 h.2
  case waitRecv d t => exact waitRecv_does h.1 h.2
  case waitFree d t => exact waitFree_does h.1 h.2
  case free d t => exact free_does h (freed_slot d h)
  case add d t => exact addSlot_does h
  case outW d j => exact outW_does
  case outSlot d t => exact outSlot_does h.1 h.2

/-! ## Walking through a list of steps -/

/-- Taking pieces out of a list; taking payments off the front of what is owed. -/
def takeAll : List Item → List Item → Option (List Item)
  | [], σ => some σ
  | i :: is, σ => if i ∈ σ then takeAll is (σ.erase i) else none

def takePays : List Pay → List Pay → Option (List Pay)
  | [], l => some l
  | p :: ps, q :: l => if p = q then takePays ps l else none
  | _ :: _, [] => none

def walk : List Act → List Item × List Pay → Option (List Item × List Pay)
  | [], s => some s
  | a :: acs, (σ, l) =>
    match takeAll a.ins σ, takePays a.pay l with
    | some ρ, some l' => if a.ok l' then walk acs (a.outs ++ ρ, l') else none
    | _, _ => none

def runActs (c : Dev nD) : List Act → Steps F
  | [] => .ret ⟨⟩
  | a :: acs => a.prog c >>= fun _ => runActs c acs

theorem takeAll_holds : ∀ {is σ ρ : List Item}, takeAll is σ = some ρ → (holds m c σ : sProp 𝕄) ⊢ holds m c (is ++ ρ)
  | [], σ, ρ, h => by
    obtain rfl : σ = ρ := Option.some.inj h
    exact BI.Entails.refl _
  | i :: is, σ, ρ, h => by
    unfold takeAll at h
    by_cases hi : i ∈ σ
    · rw [if_pos hi] at h
      exact (holds_take m c hi).trans (sep_mono_right (takeAll_holds h))
    · rw [if_neg hi] at h; cases h

theorem takePays_eq : ∀ {ps l l' : List Pay}, takePays ps l = some l' → l = ps ++ l'
  | [], l, l', h => Option.some.inj h
  | p :: ps, [], l', h => by cases h
  | p :: ps, q :: l, l', h => by
    unfold takePays at h
    by_cases hp : p = q
    · rw [if_pos hp] at h; rw [hp, takePays_eq h]; rfl
    · rw [if_neg hp] at h; cases h

/-- A walk that comes to an end is a run of the steps. -/
theorem walk_does : ∀ {acs : List Act} {σ : List Item} {l : List Pay} {ρ : List Item} {l' : List Pay},
    walk acs (σ, l) = some (ρ, l') → Does m K c (runActs c acs) l σ l' ρ
  | [], σ, l, ρ, l', h => by
    obtain ⟨rfl, rfl⟩ : σ = ρ ∧ l = l' := by simpa [walk] using h
    exact Does.none (BI.Entails.refl _)
  | a :: acs, σ, l, ρ, l', h => by
    unfold walk at h
    rcases ht : takeAll a.ins σ with - | ρ₁
    · rw [ht] at h; simp at h
    rcases hp : takePays a.pay l with - | l₁
    · rw [ht, hp] at h; simp at h
    rw [ht, hp] at h
    dsimp only at h
    by_cases hok : a.ok l₁ = true
    · rw [if_pos hok] at h
      rw [takePays_eq hp]
      have h₁ := (a.does (m := m) (K := K) (c := c) l₁ hok).more ρ₁
      have h₂ : Does m K c (.ret ⟨⟩ : Steps F) (a.pay ++ l₁) σ (a.pay ++ l₁) (a.ins ++ ρ₁) := Does.none (takeAll_holds ht)
      exact h₂.seq (h₁.seq (walk_does h))
    · rw [if_neg hok] at h; cases h

/-! ## The kernel's steps -/

/-- The barrier, the casts, and the first transfers. -/
def startActs : List Act :=
  [.signal false, .signal true, .barrier, .copyHalf 0, .copyHalf 1, .waitHalf 0, .castHalf 0, .send 0 0, .send 1 0,
   .waitHalf 1, .castHalf 1, .send 0 1, .send 1 1, .copyBlock 1 2 1, .merge, .copyBlock 0 0 1,
   .waitBlock 1 2 1, .castCols 1 2 0, .castCols 1 2 1, .reuse 1 2, .copyBlock 1 1 2,
   .waitBlock 0 0 1, .castCols 0 0 0, .castCols 0 0 1, .waitBlock 1 1 2, .castCols 1 1 0, .castCols 1 1 1]

/-- Receiving transfer `r` of both directions, adding it or writing it to the result. -/
def recvActs (r : ℕ) : List Act :=
  if r < 6 then [.waitRecv 0 r, .add 0 r, .free 0 r, .waitRecv 1 r, .add 1 r, .free 1 r]
  else [.waitRecv 0 r, .outSlot 0 r, .waitRecv 1 r, .outSlot 1 r]

def doneActs (t : ℕ) : List Act := [.waitSend 0 t, .waitSend 1 t]
/-- Giving back the slots of transfer `t` once they have been sent on. -/
def backActs (t : ℕ) : List Act := [.waitSend 0 (t + 2), .free 0 t, .waitSend 1 (t + 2), .free 1 t]
/-- Making transfer `t + 4` in both directions when allowed. -/
def sendActs (t : ℕ) : List Act := [.waitFree 0 t, .send 0 (t + 4), .waitFree 1 t, .send 1 (t + 4)]
def outActs (j : Fin 2) : List Act := [.outW 0 j, .outW 1 j]

/-- All the steps. -/
def acts : List Act :=
  startActs
  ++ (recvActs 0 ++ [.send 0 2, .send 1 2] ++ recvActs 1 ++ [.send 0 3, .send 1 3])
  ++ (recvActs 2 ++ doneActs 0 ++ sendActs 0 ++ recvActs 3 ++ doneActs 1 ++ sendActs 1)
  ++ (recvActs 4 ++ outActs 0 ++ doneActs 2 ++ sendActs 2 ++ recvActs 5 ++ outActs 1 ++ doneActs 3 ++ sendActs 3)
  ++ (recvActs 6 ++ doneActs 4 ++ sendActs 4 ++ recvActs 7 ++ doneActs 5 ++ sendActs 5)
  ++ (recvActs 8 ++ doneActs 6 ++ backActs 6 ++ sendActs 6 ++ recvActs 9 ++ doneActs 7 ++ backActs 7 ++ sendActs 7)
  ++ (recvActs 10 ++ doneActs 10 ++ recvActs 11 ++ doneActs 11)

set_option maxHeartbeats 4000000 in
set_option maxRecDepth 100000 in
theorem clean_acts : clean (F := F) oM hoM = .op .deviceId fun c => runActs c acts := rfl

/-! ## The pieces before and after -/

def perDir (f : Fin 2 → List Item) : List Item := f 0 ++ f 1

/-- The pieces that a device starts with. -/
def init : List Item :=
  [.bTok false, .bTok true, .mine 0, .mine 1, .bAt 0, .bCr]
  ++ perDir (fun d => (List.range 12).map (.tok d)) ++ perDir (fun d => (List.range 4).map (.sAt d))
  ++ perDir (fun d => (List.range 4).map (.rAt d)) ++ perDir (fun d => (List.range 4).map (.cAt d))
  ++ perDir (fun d => (List.range 12).map (.rCr d)) ++ perDir (fun d => (List.range 8).map (.cCr d))
  ++ perDir (fun d => (List.range 8).map (.sig d)) ++ perDir (fun d => (List.range 8).map (.blank d))
  ++ [.pAt 0 0, .pAt 1 0, .pTok 0 0, .pTok 0 1, .pTok 1 0, .pTok 1 1, .pTok 1 2]
  ++ [.xh 0, .xh 1, .xb 0, .xb 1, .xb 2, .sA 1, .shA 0, .shA 1]
  ++ perDir (fun d => (List.range 8).map fun t => .oA d (6 + t))

/-- The pieces that it ends with. -/
def final : List Item :=
  [.bAt 1, .pAt 0 2, .pAt 1 3]
  ++ perDir (fun d => (List.range 4).map fun t => .sAt d (12 + t)) ++ perDir (fun d => (List.range 4).map fun t => .rAt d (12 + t))
  ++ perDir (fun d => (List.range 4).map fun t => .cAt d (8 + t))
  ++ perDir (fun d => (List.range 8).map (.pc d)) ++ perDir (fun d => (List.range 4).map fun t => .pc d (10 + t))
  ++ [.xh 0, .xh 1, .xb 0, .xb 1, .xb 2, .sb 0 0, .sb 1 1]
  ++ perDir (fun d => (List.range 8).map fun t => .oD d (6 + t))

/-- Whether a walk ends with all payments made and the pieces of a list among those it leaves. -/
def endsIn (f : List Item) : Option (List Item × List Pay) → Bool
  | some (ρ, []) => (takeAll f ρ).isSome
  | _ => false

theorem endsIn_spec {f : List Item} {o : Option (List Item × List Pay)} (h : endsIn f o = true) :
    ∃ ρ e, o = some (ρ, []) ∧ takeAll f ρ = some e := by
  rcases o with - | ⟨ρ, l⟩
  · cases h
  rcases l with - | ⟨p, l⟩
  · obtain ⟨e, he⟩ := Option.isSome_iff_exists.mp (h : (takeAll f ρ).isSome = true)
    exact ⟨ρ, e, rfl, he⟩
  · cases h

theorem walk_kernel : endsIn final (walk acts (init, pays)) = true := by decide +kernel

/-- The kernel's steps, from the pieces of `init` and owing all payments, come to those of `final`, owing nothing. -/
theorem acts_does : Does m K c (runActs c acts) pays init [] final := by
  obtain ⟨ρ, e, hw, he⟩ := endsIn_spec walk_kernel
  have h₁ : Does m K c (runActs c acts) pays init [] ρ := walk_does hw
  have h₂ : Does m K c (.ret ⟨⟩ : Steps F) [] ρ [] final := Does.none (by
    refine (takeAll_holds he).trans ((holds_append m c final e).1.trans ?_)
    exact sep_elim_left)
  intro k Q
  have h := h₁.seq h₂ k Q
  rw [show ((runActs c acts >>= fun _ => (.ret ⟨⟩ : Steps F)) >>= k : Steps F) = runActs c acts >>= k from Prog.bind_assoc _ _ _] at h
  exact h

end Cert.RingProof

end
-- ==== Proof.Deal.lean ====
/-
How a device's pieces of state come about before the kernel runs: the tokens are dealt around the ring, each to the device
that pays with it; the positions are a device's own; the credits are what the other devices owe it. And how the cells are
closed after it.
-/
module

public import proofs.«01_k».proof.Proof.Run
public import Idealize.ShloMosaic.Lib.Pipeline.Launch
public import Idealize.ShloMosaic.Lib.Pipeline.BigSepL

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

local notation "𝕄" => MT nD τ sig ℕ (Elt F) ℕ UU ℕ

/-! ## Lists of pieces -/

theorem chain_holds {α : Type} (c : Dev nD) {Φ : α → sProp 𝕄} {f : α → Item} : ∀ (l : List α), (∀ i ∈ l, Φ i ⊢ (res m c (f i) : sProp 𝕄)) →
    bigSepL l Φ ⊢ (holds m c (l.map f) : sProp 𝕄)
  | [], _ => BI.Entails.refl _
  | i :: l, h => by
    rw [bigSepL_cons]
    exact BI.sep_mono (h i List.mem_cons_self) (chain_holds c l fun j hj => h j (List.mem_cons_of_mem _ hj))

theorem holds_chain {α : Type} (c : Dev nD) {Φ : α → sProp 𝕄} {f : α → Item} : ∀ (l : List α), (∀ i ∈ l, (res m c (f i) : sProp 𝕄) ⊢ Φ i) →
    (holds m c (l.map f) : sProp 𝕄) ⊢ bigSepL l Φ
  | [], _ => BI.Entails.refl _
  | i :: l, h => by
    rw [bigSepL_cons]
    exact BI.sep_mono (h i List.mem_cons_self) (holds_chain c l fun j hj => h j (List.mem_cons_of_mem _ hj))

/-- Pieces found in a list may be taken out of it, in any order. -/
theorem holds_perm (c : Dev nD) {is σ : List Item} (h : (takeAll is σ).isSome = true) : (holds m c σ : sProp 𝕄) ⊢ holds m c is := by
  obtain ⟨ρ, hρ⟩ := Option.isSome_iff_exists.mp h
  exact (takeAll_holds hρ).trans ((holds_append m c is ρ).1.trans sep_elim_left)

/-- What every index makes of its share, with something all may know. -/
theorem each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## What every device knows -/

/-- Every cell's invariant, and that every cell has come to its first round. -/
def known (K : Dev nD × Fin 27 → ℕ) : sProp 𝕄 :=
  iprop(bigSep Finset.univ (fun ck => cellInv ER (Sch m) (K ck) (kcell ck)) ∗ bigSep Finset.univ (fun ck => reached ER (kcell ck) 0))

instance (K : Dev nD × Fin 27 → ℕ) : BI.Persistent (known m K) := by unfold known; infer_instance

/-- That every cell has come to its first round. -/
def begun : sProp 𝕄 := bigSep Finset.univ (fun ck => reached ER (kcell ck) 0)
instance : BI.Persistent (begun (F := F)) := by unfold begun; infer_instance

theorem begun_at (ck : Dev nD × Fin 27) : (begun : sProp 𝕄) ⊢ reached ER (kcell ck) 0 := by
  unfold begun; exact bigSep_elim (Φ := fun ck => (reached ER (kcell ck) 0 : sProp 𝕄)) (Finset.mem_univ ck)
theorem begun_bar (c : Dev nD) : (begun : sProp 𝕄) ⊢ reached ER (barC c) 0 := begun_at (c, 0)
theorem begun_rcv (c : Dev nD) (d : Fin 2) (s : Fin 4) : (begun : sProp 𝕄) ⊢ reached ER (rcvC c d s) 0 := by
  have h := begun_at (F := F) (c, kRcv d s); unfold kcell at h; rw [csem_rcv] at h; exact h

theorem known_begun (K : Dev nD × Fin 27 → ℕ) : known m K ⊢ (begun : sProp 𝕄) := by unfold known begun; iintro ⟨-, H⟩; iexact H

theorem known_recs (K : Dev nD × Fin 27 → ℕ) : iprop(known m K ∗ levAts L lv) ⊢ recs m K := by
  unfold known recs
  iintro ⟨⟨H, -⟩, HL⟩
  isplitl [H] <;> iassumption

/-! ## Tokens -/

abbrev Key : Type := SemLoc sig × ℕ × Bool

/-- A token of a cell of device `c`. -/
def tokAt (c : Dev nD) (k : Key) : sProp 𝕄 := dutyTok ER ((c : Thread nD τ), k.1) k.2.1 k.2.2

/-- The tokens that a piece is made of, each named by its cell, of whatever device. -/
def keysOf : Item → List Key
  | .bTok b => [(.reg barS, 0, b)]
  | .tok d t => [(.dma (sndS d (slot t)), t / 4, false), (.dma (rcvS d (slot t)), t / 4, false)]
  | .sig d t => [(.reg (crdS d (slot t)), t / 4, false)]
  | .pTok s r => [(.dma (cpyS s), r, false)]
  | _ => []

def isTok : Item → Bool
  | .bTok _ => true
  | .tok _ _ => true
  | .sig _ _ => true
  | .pTok _ _ => true
  | _ => false

/-- The tokens of a piece at all devices, dealt to the devices that pay with them. -/
theorem deal_one (i : Item) (hi : isTok i = true) :
    iprop(begun ∗ bigSep Finset.univ fun c : Dev nD => bigSepL (keysOf i) (tokAt c)) ⊢ (bigSep Finset.univ fun c : Dev nD => res m c i : sProp 𝕄) := by
  cases i <;> first | (cases hi; done) | skip
  case bTok b =>
    simp only [keysOf, bigSepL_singleton, res]
    rw [bigSep_univ_equiv (ring (bDir b).val).symm fun c : Dev nD => (tokAt c ((.reg barS, 0, b) : Key) : sProp 𝕄)]
    refine each fun c _ => ?_
    iintro ⟨#H, Ht⟩
    isplitl [Ht]
    · iapply (show (tokAt ((ring (bDir b).val).symm c) ((.reg barS, 0, b) : Key) : sProp 𝕄) ⊢ dutyTok ER (barC (frD (bDir b).val c)) 0 b from BI.Entails.refl _)
      iexact Ht
    iapply (begun_bar (F := F) (frD (bDir b).val c)); iexact H
  case tok d t =>
    simp only [keysOf, bigSepL_cons_cons, bigSepL_singleton, res]
    iintro ⟨-, H⟩
    ihave H := (Entails.of_eq (bigSep_sep' Finset.univ (fun c : Dev nD => (tokAt c ((.dma (sndS d (slot t)), t / 4, false) : Key) : sProp 𝕄))
      (fun c : Dev nD => tokAt c ((.dma (rcvS d (slot t)), t / 4, false) : Key)))) $$ H
    icases H with ⟨H1, H2⟩
    ihave H2 := (Entails.of_eq (bigSep_univ_equiv (ring d.val) fun c : Dev nD => (tokAt c ((.dma (rcvS d (slot t)), t / 4, false) : Key) : sProp 𝕄))) $$ H2
    iapply (Entails.of_eq (bigSep_sep' Finset.univ (fun c : Dev nD => (dutyTok ER (sndC c d (slot t)) (t / 4) false : sProp 𝕄))
      (fun c : Dev nD => dutyTok ER (rcvC (toD d.val c) d (slot t)) (t / 4) false)).symm)
    isplitl [H1]; · iexact H1
    iexact H2
  case sig d t =>
    simp only [keysOf, bigSepL_singleton, res]
    rw [bigSep_univ_equiv (ring d.val).symm fun c : Dev nD => (tokAt c ((.reg (crdS d (slot t)), t / 4, false) : Key) : sProp 𝕄)]
    iintro ⟨-, H⟩
    iexact H
  case pTok s r =>
    simp only [keysOf, bigSepL_singleton, res]
    iintro ⟨-, H⟩
    iexact H

theorem deal : ∀ (l : List Item), (∀ i ∈ l, isTok i = true) →
    iprop(begun ∗ bigSep Finset.univ fun c : Dev nD => bigSepL (l.flatMap keysOf) (tokAt c)) ⊢ (bigSep Finset.univ fun c : Dev nD => holds m c l : sProp 𝕄)
  | [], _ => by
    iintro ⟨-, H⟩
    iexact H
  | i :: l, h => by
    simp only [List.flatMap_cons, bigSepL_append, bigSep_sep', holds]
    iintro ⟨#H, Hi, Hl⟩
    isplitl [Hi]
    · iapply (deal_one m i (h i List.mem_cons_self))
      isplitr; · iexact H
      iexact Hi
    · iapply (deal l fun j hj => h j (List.mem_cons_of_mem _ hj))
      isplitr; · iexact H
      iexact Hl

/-- The pieces made of tokens that a device starts with. -/
def tokItems : List Item :=
  [.bTok false, .bTok true] ++ perDir (fun d => (List.range 12).map (.tok d)) ++ perDir (fun d => (List.range 8).map (.sig d))
  ++ [.pTok 0 0, .pTok 0 1, .pTok 1 0, .pTok 1 1, .pTok 1 2]

def keys : List Key := tokItems.flatMap keysOf

theorem tokItems_tok : ∀ i ∈ tokItems, isTok i = true := by decide +kernel
theorem keys_nodup : keys.Nodup := by decide +kernel

/-- The tokens of all devices. -/
def ringTok (x : Dev nD × {k : Key // k ∈ keys.toFinset}) : GSem nD τ sig × ℕ × Bool := (((x.1 : Thread nD τ), x.2.1.1), x.2.1.2)

theorem ringTok_injective : Function.Injective ringTok := by
  rintro ⟨c, k, hk⟩ ⟨c', k', hk'⟩ h
  have h1 : c = c' := congrArg (fun x : GSem nD τ sig × ℕ × Bool => x.1.1.1) h
  have h2 : k.1 = k'.1 := congrArg (fun x : GSem nD τ sig × ℕ × Bool => x.1.2) h
  have h3 : k.2 = k'.2 := congrArg (fun x : GSem nD τ sig × ℕ × Bool => x.2) h
  subst h1
  have h4 : k = k' := Prod.ext h2 h3
  subst h4; rfl

def ringCells : Finset (GSem nD τ sig) := Finset.univ.map ⟨kcell, kcell_injective⟩
def ringToks : Finset (GSem nD τ sig × ℕ × Bool) := Finset.univ.map ⟨ringTok, ringTok_injective⟩

theorem ringToks_eq : (bigSep ringToks (fun x => dutyTok ER x.1 x.2.1 x.2.2) : sProp 𝕄) = bigSep Finset.univ fun c : Dev nD => bigSepL keys (tokAt c) := by
  unfold ringToks
  rw [bigSep_map, bigSep_univ_prod]
  refine bigSep_congr fun c _ => ?_
  rw [← bigSep_eq_bigSepL keys keys_nodup]
  have h : (Finset.univ.map (Function.Embedding.subtype fun k => k ∈ keys.toFinset)) = keys.toFinset := Finset.attach_map_val
  refine Eq.trans ?_ (congrArg (fun S => bigSep S (tokAt (F := F) c)) h)
  rw [bigSep_map]; rfl

theorem ringCells_eq (Φ : GSem nD τ sig → sProp 𝕄) : bigSep ringCells Φ = bigSep Finset.univ fun c : Dev nD => bigSep Finset.univ fun k : Fin 27 => Φ (kcell (c, k)) := by
  unfold ringCells; rw [bigSep_map, bigSep_univ_prod]; rfl

/-! ## Positions -/

/-- The round of a cell after its last duty. -/
def lastRound (k : Fin 27) : ℕ := if k.val = 0 then 1 else if k.val < 17 then 3 else if k.val < 25 then 2 else k.val - 23

/-- The position of a cell at its first round, or after its last. -/
def posItem (e : Bool) (k : Fin 27) : Item :=
  if k.val = 0 then .bAt (if e then 1 else 0)
  else if h : k.val < 9 then .sAt ⟨(k.val - 1) / 4, by omega⟩ ((k.val - 1) % 4 + (if e then 12 else 0))
  else if h : k.val < 17 then .rAt ⟨(k.val - 9) / 4, by omega⟩ ((k.val - 9) % 4 + (if e then 12 else 0))
  else if h : k.val < 25 then .cAt ⟨(k.val - 17) / 4, by omega⟩ ((k.val - 17) % 4 + (if e then 8 else 0))
  else .pAt ⟨k.val - 25, by omega⟩ (if e then k.val - 23 else 0)

theorem cell_cases : ∀ k : Fin 27, k = 0 ∨ (∃ d s, k = kSnd d s) ∨ (∃ d s, k = kRcv d s) ∨ (∃ d s, k = kCrd d s) ∨ ∃ s, k = kCpy s := by decide +kernel

theorem res_posItem (c : Dev nD) (e : Bool) (k : Fin 27) : (res m c (posItem e k) : sProp 𝕄) = posRes (kcell (c, k)) (if e then lastRound k else 0) := by
  fin_cases k <;> cases e <;> rfl

theorem later_cell (c : Dev nD) (k : Fin 27) : ∀ r, lastRound k ≤ r → (Sch m).duties (kcell (c, k)) r = ∅ := by
  unfold kcell
  rcases cell_cases k with rfl | ⟨d, s, rfl⟩ | ⟨d, s, rfl⟩ | ⟨d, s, rfl⟩ | ⟨s, rfl⟩
  · exact later_bar m c
  · rw [csem_snd, show lastRound (kSnd d s) = 3 by revert d s; decide +kernel]; exact later_snd m c d s
  · rw [csem_rcv, show lastRound (kRcv d s) = 3 by revert d s; decide +kernel]; exact later_rcv m c d s
  · rw [csem_crd, show lastRound (kCrd d s) = 2 by revert d s; decide +kernel]; exact later_crd m c d s
  · rw [csem_cpy, show lastRound (kCpy s) = 2 + s.val by revert s; decide +kernel]; exact later_cpy m c s

def posItems (e : Bool) : List Item := (List.finRange 27).map (posItem e)

theorem all_cells : (Finset.univ : Finset (Fin 27)) = (List.finRange 27).toFinset := by decide +kernel

theorem positions (c : Dev nD) : (bigSep Finset.univ fun k : Fin 27 => posRes (kcell (c, k)) 0 : sProp 𝕄) ⊢ holds m c (posItems false) := by
  rw [bigSep_eq_bigSepL_of_eq _ all_cells (List.nodup_finRange 27)]
  exact chain_holds m c _ fun k _ => Entails.of_eq (res_posItem m c false k).symm

/-- The cells after their last rounds may be closed. -/
theorem close_cells (K : Dev nD × Fin 27 → ℕ) (c : Dev nD) :
    iprop(recs m K ∗ holds m c (posItems true)) ⊢ (iprop(|={Set.univ}=> bigSep Finset.univ fun k : Fin 27 => semVal (kcell (c, k)) 0) : sProp 𝕄) := by
  refine (sep_mono_right (holds_chain m c (Φ := fun k => posRes (kcell (c, k)) (lastRound k)) _ fun k _ => Entails.of_eq (res_posItem m c true k))).trans ?_
  rw [← bigSep_eq_bigSepL_of_eq _ all_cells (List.nodup_finRange 27)]
  refine (each (Ψ := fun k => iprop(|={Set.univ}=> semVal (kcell (c, k)) 0)) fun k _ => ?_).trans (bigSep_fupd _ _)
  unfold posRes
  iintro ⟨#H, Hat, -⟩
  iapply (Rounds.cell_close ER (Sch m) (κ := K (c, k)) (Set.mem_univ _) (fun h => h) (later_cell m c k))
  isplitr
  · iapply (recs_inv m K (c, k)); iexact H
  · iexact Hat

/-! ## Credits -/

/-- The piece that a payment of some other device makes. -/
def credItem : Pay → Item
  | .bar _ => .bCr
  | .crd d t => .cCr d t
  | .rcv d t => .rCr d t

def isCred : Pay → Bool
  | .bar _ => false
  | _ => true

theorem credit_one (c : Dev nD) (p : Pay) (h : isCred p = true) : (Pipeline.launchCred (fun c => tally c p) c : sProp 𝕄) ⊢ res m c (credItem p) := by
  cases p with
  | bar b => cases h
  | crd d t => exact Pipeline.launchCred_tallyAt (.reg (crdS d (slot t))) (frD d.val) (toD d.val) (frD_toD d.val) (toD_frD d.val) (t / 4) 1 c
  | rcv d t => exact Pipeline.launchCred_tallyAt (.dma (rcvS d (slot t))) (toD d.val) (frD d.val) (toD_frD d.val) (frD_toD d.val) (t / 4) N c

theorem credit_bar (c : Dev nD) (b : Bool) : (Pipeline.launchCred (fun c => tally c (.bar b)) c : sProp 𝕄) ⊢ cred (tallyAt (barC c) 0 1) := by
  cases b with
  | false => exact Pipeline.launchCred_tallyAt (.reg barS) prv nxt prv_nxt nxt_prv 0 1 c
  | true => exact Pipeline.launchCred_tallyAt (.reg barS) nxt prv nxt_prv prv_nxt 0 1 c

theorem credits_list (c : Dev nD) : ∀ (l : List Pay), (∀ p ∈ l, isCred p = true) →
    (Pipeline.launchCred (fun c => owed c l) c : sProp 𝕄) ⊢ holds m c (l.map credItem)
  | [], _ => Entails.of_eq (Pipeline.launchCred_zero c)
  | p :: l, h => by
    show Pipeline.launchCred (fun c => owed c l + tally c p) c ⊢ (iprop(res m c (credItem p) ∗ holds m c (l.map credItem)) : sProp 𝕄)
    rw [Pipeline.launchCred_add]
    iintro ⟨Hl, Hp⟩
    isplitl [Hp]
    · iapply (credit_one m c p (h p List.mem_cons_self)); iexact Hp
    · iapply (credits_list c l fun q hq => h q (List.mem_cons_of_mem _ hq)); iexact Hl

/-- The payments after the two signals of barrier cells. -/
def laterPays : List Pay := pays.drop 2

theorem laterPays_cred : ∀ p ∈ laterPays, isCred p = true := by decide +kernel

def credItems : List Item := .bCr :: laterPays.map credItem

theorem credits (c : Dev nD) : (Pipeline.launchCred (fun c => owed c pays) c : sProp 𝕄) ⊢ holds m c credItems := by
  show Pipeline.launchCred (fun c => owed c laterPays + tally c (.bar true) + tally c (.bar false)) c
    ⊢ (iprop(cred (tallyAt (barC c) 0 2) ∗ holds m c (laterPays.map credItem)) : sProp 𝕄)
  rw [Pipeline.launchCred_add, Pipeline.launchCred_add]
  iintro ⟨⟨Hl, Ht⟩, Hf⟩
  isplitl [Ht Hf]
  · ihave Ht := (credit_bar (F := F) c true) $$ Ht
    ihave Hf := (credit_bar (F := F) c false) $$ Hf
    rw [show (tallyAt (barC c) 0 2 : CellTallies nD τ sig ℕ) = tallyAt (barC c) 0 1 + tallyAt (barC c) 0 1 from (tallyAt_add (barC c) 0 1 1).symm]
    iapply (cred_add _ _).2
    isplitl [Ht] <;> iassumption
  · iapply (credits_list m c laterPays laterPays_cred); iexact Hl

end Cert.RingProof

end
-- ==== Proof.Buffers.lean ====
/-
The whole buffers of a device as the pieces it works with, and the pieces it ends with as whole buffers.
-/
module

public import proofs.«01_k».proof.Proof.Deal

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

local notation "𝕄" => MT nD τ sig ℕ (Elt F) ℕ UU ℕ

/-! ## Cutting a buffer -/

/-- Every element is in one of the sets of a family, and in one only. -/
def Parts {I T : Type} (K : T → Finset I) : Prop := ∀ i, ∃ t, i ∈ K t ∧ ∀ t', i ∈ K t' → t' = t

section Cut

variable {ℓ : Loc nD τ sig} {T : Type} [Fintype T] [DecidableEq T] {K : T → Finset (Idx ℓ)} {l : List T}

theorem Parts.disjoint (h : Parts K) : ∀ t ∈ (Finset.univ : Finset T), ∀ t' ∈ (Finset.univ : Finset T), t ≠ t' → Disjoint (K t) (K t') :=
  fun t _ t' _ hne => Finset.disjoint_left.mpr fun i hi hi' => by
    obtain ⟨u, -, hu⟩ := h i
    exact hne ((hu t hi).trans (hu t' hi').symm)

theorem Parts.union (h : Parts K) : (Finset.univ : Finset T).biUnion K = Finset.univ :=
  Finset.eq_univ_of_forall fun i => by
    obtain ⟨u, hu, -⟩ := h i
    exact Finset.mem_biUnion.mpr ⟨u, Finset.mem_univ u, hu⟩

theorem cut (h : Parts K) (hl : Finset.univ = l.toFinset) (hn : l.Nodup) (f : Buf (Elt F) ℓ) :
    (ℓ ↦{fullShare} f : sProp 𝕄) = bigSepL l fun t => ℓ ↦[K t]{fullShare} f := by
  rw [← bigSep_eq_bigSepL_of_eq l hl hn, ← pointsTo_biUnion Finset.univ K h.disjoint, h.union]

theorem uncut (h : Parts K) (hl : Finset.univ = l.toFinset) (hn : l.Nodup) (fs : T → Buf (Elt F) ℓ) (f₀ : Buf (Elt F) ℓ) :
    (bigSepL l (fun t => ℓ ↦[K t]{fullShare} fs t)) ⊢ (iprop(∃ f, ℓ ↦{fullShare} f) : sProp 𝕄) := by
  rw [← bigSep_eq_bigSepL_of_eq l hl hn]
  refine (pointsTo_biUnion_join Finset.univ K fs f₀ h.disjoint).trans ?_
  rw [h.union]
  iintro ⟨%g, -, H⟩
  iexists g; iexact H

end Cut

/-! ## The working buffer -/

abbrev Two8 : Type := Fin 2 × Fin 8
abbrev Two4 : Type := Fin 2 × Fin 4
def two8 : List Two8 := (List.finRange 8).map (0, ·) ++ (List.finRange 8).map (1, ·)
def two4 : List Two4 := (List.finRange 4).map (0, ·) ++ (List.finRange 4).map (1, ·)
theorem two8_all : (Finset.univ : Finset Two8) = two8.toFinset := by decide +kernel
theorem two8_nodup : two8.Nodup := by decide +kernel
theorem two4_all : (Finset.univ : Finset Two4) = two4.toFinset := by decide +kernel
theorem two4_nodup : two4.Nodup := by decide +kernel

/-- The rows of eight transfers are all the rows. -/
theorem rows_of : ∀ (d : Fin 2) (c : Dev nD) (e : Fin 2) (q : Fin 8), ∃ t : Fin 8,
    2 * chunk d.val ((6 * e.val + t.val) / 2) c + (6 * e.val + t.val) % 2 = q.val
    ∧ ∀ t' : Fin 8, 2 * chunk d.val ((6 * e.val + t'.val) / 2) c + (6 * e.val + t'.val) % 2 = q.val → t' = t := by decide +kernel

theorem row0_eq (d t : ℕ) (c : Dev nD) : row0 d t c = 1024 * (2 * chunk d (t / 2) c + t % 2) := by unfold row0; omega

def wCut (c : Dev nD) (x : Two8) : Finset S2x8192x512.Idx := wSet x.1.val (row0 x.1.val x.2.val c) 1024

theorem wCut_parts (c : Dev nD) : Parts (wCut c) := fun i => by
  have h0 : (i 0).val < 2 := (i 0).isLt
  have h1 : (i 1).val < 8192 := (i 1).isLt
  obtain ⟨t, ht, hu⟩ := rows_of ⟨(i 0).val, h0⟩ c 0 ⟨(i 1).val / 1024, by omega⟩
  simp only [Fin.val_zero, Nat.mul_zero, Nat.zero_add] at ht hu
  refine ⟨(⟨(i 0).val, h0⟩, t), ?_, ?_⟩
  · unfold wCut; rw [mem_wSet, row0_eq, ht]
    refine ⟨rfl, ?_, ?_⟩ <;> dsimp only <;> omega
  · rintro ⟨d, t'⟩ h
    unfold wCut at h; rw [mem_wSet, row0_eq] at h
    have hd : d = ⟨(i 0).val, h0⟩ := Fin.ext h.1.symm
    subst hd
    rw [hu t' (by have := h.2; dsimp only at this ⊢; omega)]

theorem wP_eq (c : Dev nD) (x : Two8) (f : Buf (Elt F) ((c : Thread nD τ).loc cc0_scratch0)) :
    (((c : Thread nD τ).loc cc0_scratch0) ↦[wCut c x]{fullShare} f : sProp 𝕄) = wP c x.1.val (row0 x.1.val x.2.val c) 1024 f := rfl

theorem w_cut (c : Dev nD) : iprop(∃ f, ((c : Thread nD τ).loc cc0_scratch0) ↦{fullShare} f) ⊢ (holds m c (two8.map fun x => .blank x.1 x.2.val) : sProp 𝕄) := by
  iintro ⟨%f, H⟩
  ihave H := (Entails.of_eq (cut (F := F) (ℓ := (c : Thread nD τ).loc cc0_scratch0) (wCut_parts c) two8_all two8_nodup f)) $$ H
  iapply (chain_holds m c (Φ := fun x => ((c : Thread nD τ).loc cc0_scratch0) ↦[wCut c x]{fullShare} f) (f := fun x : Two8 => .blank x.1 x.2.val) two8 fun x _ => by
    simp only [res, wP_eq]
    iintro H; iexists f; iexact H)
  iexact H

theorem pc_early (c : Dev nD) (x : Two8) :
    (res m c (.pc x.1 x.2.val) : sProp 𝕄) = (((c : Thread nD τ).loc cc0_scratch0) ↦[wCut c x]{fullShare} (wAcc m (x.2.val / 2) c)) := by
  rw [wP_eq]
  exact if_pos x.2.isLt

theorem w_uncut (c : Dev nD) : (holds m c (two8.map fun x => .pc x.1 x.2.val) : sProp 𝕄) ⊢ iprop(∃ f, ((c : Thread nD τ).loc cc0_scratch0) ↦{fullShare} f) :=
  (holds_chain m c (Φ := fun x => ((c : Thread nD τ).loc cc0_scratch0) ↦[wCut c x]{fullShare} (wAcc m (x.2.val / 2) c)) (f := fun x : Two8 => .pc x.1 x.2.val) two8
    fun x _ => Entails.of_eq (pc_early m c x)).trans
  (uncut (ℓ := (c : Thread nD τ).loc cc0_scratch0) (wCut_parts c) two8_all two8_nodup (fun x : Two8 => wAcc m (x.2.val / 2) c) (wAcc m 0 c))

/-! ## The landing slots -/

def rCut (x : Two4) : Finset S2x4x1024x512.Idx := rSet x.1.val x.2.val

theorem rCut_parts : Parts rCut := fun i => by
  have h0 : (i 0).val < 2 := (i 0).isLt
  have h1 : (i 1).val < 4 := (i 1).isLt
  refine ⟨(⟨(i 0).val, h0⟩, ⟨(i 1).val, h1⟩), mem_rSet.mpr ⟨rfl, rfl⟩, ?_⟩
  rintro ⟨d, s⟩ h
  have h' := mem_rSet.mp h
  exact Prod.ext (Fin.ext h'.1.symm) (Fin.ext h'.2.symm)

theorem rP_eq (c : Dev nD) (x : Two4) (f : Buf (Elt F) ((c : Thread nD τ).loc cc0_scratch1)) :
    (((c : Thread nD τ).loc cc0_scratch1) ↦[rCut x]{fullShare} f : sProp 𝕄) = rP c x.1.val x.2.val f := rfl

theorem rights_intro (c : Dev nD) (x : Two4) (f) :
    iprop(begun ∗ ((c : Thread nD τ).loc cc0_scratch1) ↦[rCut x]{fullShare} f) ⊢ (rightRes (frD x.1.val c) x.1 x.2.val : sProp 𝕄) := by
  unfold rightRes
  rw [toD_frD, Nat.div_eq_of_lt x.2.isLt, show slot x.2.val = x.2 from Fin.ext (Nat.mod_eq_of_lt x.2.isLt), rP_eq]
  iintro ⟨#H, Hr⟩
  isplitl [Hr]
  · iexists f; iexact Hr
  · iapply (begun_rcv (F := F) c x.1 x.2); iexact H

/-- The four slots of a direction. -/
theorem rights_four (c : Dev nD) (d : Fin 2) (f) :
    iprop(begun ∗ bigSepL ((List.finRange 4).map (d, ·)) fun x : Two4 => ((c : Thread nD τ).loc cc0_scratch1) ↦[rCut x]{fullShare} f)
      ⊢ (res m c (.mine d) : sProp 𝕄) := by
  rw [show (List.finRange 4).map (d, ·) = [(d, 0), (d, 1), (d, 2), (d, 3)] by revert d; decide +kernel]
  simp only [bigSepL_cons', bigSepL_nil, res, barPay]
  iintro ⟨#H, H0, H1, H2, H3, -⟩
  isplitl [H0]
  · iapply (rights_intro c (d, 0) f)
    isplitr; · iexact H
    iexact H0
  isplitl [H1]
  · iapply (rights_intro c (d, 1) f)
    isplitr; · iexact H
    iexact H1
  isplitl [H2]
  · iapply (rights_intro c (d, 2) f)
    isplitr; · iexact H
    iexact H2
  · iapply (rights_intro c (d, 3) f)
    isplitr; · iexact H
    iexact H3

/-- A device's own slots are what its signals of the barrier hand over. -/
theorem r_cut (c : Dev nD) : iprop(begun ∗ ∃ f, ((c : Thread nD τ).loc cc0_scratch1) ↦{fullShare} f) ⊢ (holds m c [.mine 0, .mine 1] : sProp 𝕄) := by
  simp only [holds]
  iintro ⟨#H, %f, Hr⟩
  ihave Hr := (Entails.of_eq (cut (F := F) (ℓ := (c : Thread nD τ).loc cc0_scratch1) rCut_parts two4_all two4_nodup f)) $$ Hr
  ihave Hr := (Entails.of_eq (show (bigSepL two4 fun x => ((c : Thread nD τ).loc cc0_scratch1) ↦[rCut x]{fullShare} f) = _ from bigSepL_append ((List.finRange 4).map ((0 : Fin 2), ·)) ((List.finRange 4).map ((1 : Fin 2), ·))
    (fun x : Two4 => (((c : Thread nD τ).loc cc0_scratch1) ↦[rCut x]{fullShare} f : sProp 𝕄)))) $$ Hr
  icases Hr with ⟨H0, H1⟩
  isplitl [H0]
  · iapply (rights_four m c 0 f)
    isplitr; · iexact H
    iexact H0
  isplitl [H1]
  · iapply (rights_four m c 1 f)
    isplitr; · iexact H
    iexact H1
  iempintro

theorem pc_late (c : Dev nD) (x : Two4) :
    (res m c (.pc x.1 (10 + x.2.val)) : sProp 𝕄) = (((c : Thread nD τ).loc cc0_scratch1) ↦[rCut x]{fullShare} (rBuf m (8 + x.2.val) c)) := by
  have h : 10 + x.2.val - 2 = 8 + x.2.val := by omega
  have h' : (slot (8 + x.2.val)).val = x.2.val := by have := x.2.isLt; unfold slot; dsimp only; omega
  refine (if_neg (by omega) : _ = rP c x.1.val (slot (10 + x.2.val - 2)).val (rBuf m (10 + x.2.val - 2) c)).trans ?_
  rw [rP_eq, h, h']

theorem r_uncut (c : Dev nD) : (holds m c (two4.map fun x => .pc x.1 (10 + x.2.val)) : sProp 𝕄) ⊢ iprop(∃ f, ((c : Thread nD τ).loc cc0_scratch1) ↦{fullShare} f) :=
  (holds_chain m c (Φ := fun x => ((c : Thread nD τ).loc cc0_scratch1) ↦[rCut x]{fullShare} (rBuf m (8 + x.2.val) c)) (f := fun x : Two4 => .pc x.1 (10 + x.2.val)) two4
    fun x _ => Entails.of_eq (pc_late m c x)).trans
  (uncut (ℓ := (c : Thread nD τ).loc cc0_scratch1) rCut_parts two4_all two4_nodup (fun x : Two4 => rBuf m (8 + x.2.val) c) (rBuf m 8 c))

/-! ## The staging slots -/

def sCut (s : Fin 2) : Finset S2x2048x1024.Idx := sSet s.val 0 2048

theorem sCut_parts : Parts sCut := fun i => by
  have h0 : (i 0).val < 2 := (i 0).isLt
  have h1 : (i 1).val < 2048 := (i 1).isLt
  refine ⟨⟨(i 0).val, h0⟩, mem_sSet.mpr ⟨rfl, by omega, by omega⟩, fun s h => Fin.ext (mem_sSet.mp h).1.symm⟩

theorem sP_eq (c : Dev nD) (s : Fin 2) (f : Buf (Elt F) ((c : Thread nD τ).loc cc0_scratch2)) :
    (((c : Thread nD τ).loc cc0_scratch2) ↦[sCut s]{fullShare} f : sProp 𝕄) = sP c s.val 0 2048 f := rfl

theorem s_cut (c : Dev nD) : iprop(∃ f, ((c : Thread nD τ).loc cc0_scratch2) ↦{fullShare} f) ⊢ (holds m c [.sA 1, .shA 0, .shA 1] : sProp 𝕄) := by
  iintro ⟨%f, H⟩
  ihave H := (Entails.of_eq (cut (F := F) (ℓ := (c : Thread nD τ).loc cc0_scratch2) sCut_parts (l := [0, 1]) (by decide) (by decide) f)) $$ H
  simp only [bigSepL_cons', bigSepL_nil, holds, res, sP_eq]
  icases H with ⟨H0, H1, -⟩
  isplitl [H1]
  · iexists f; iexact H1
  ihave H0 := (show sP c (0 : Fin 2).val 0 2048 f ⊢ iprop(sP c 0 0 1024 f ∗ sP c 0 (0 + 1024) 1024 f) from (sP_two c 0 0 1024 1024 f).1) $$ H0
  icases H0 with ⟨Ha, Hb⟩
  isplitl [Ha]
  · iexists f; iexact Ha
  isplitl [Hb]
  · iexists f; iexact Hb
  iempintro

theorem s_uncut (c : Dev nD) : (holds m c [.sb 0 0, .sb 1 1] : sProp 𝕄) ⊢ iprop(∃ f, ((c : Thread nD τ).loc cc0_scratch2) ↦{fullShare} f) :=
  (holds_chain m c (Φ := fun s => ((c : Thread nD τ).loc cc0_scratch2) ↦[sCut s]{fullShare} (sBuf m (blk s.val c) c)) (f := fun s : Fin 2 => .sb s s.castSucc) [0, 1]
    fun s _ => Entails.of_eq (sP_eq c s _).symm).trans
  (uncut (ℓ := (c : Thread nD τ).loc cc0_scratch2) sCut_parts (by decide) (by decide) (fun s : Fin 2 => sBuf m (blk s.val c) c) (sBuf m 0 c))

/-! ## The argument -/

/-- The rows of the argument in thousands: the halves of the own block, and the other blocks. -/
def xLo (c : Dev nD) (k : Fin 5) : ℕ := if k.val < 2 then 2 * c.val + k.val else 2 * blk (k.val - 2) c
def xLen (k : Fin 5) : ℕ := if k.val < 2 then 1 else 2

theorem x_of : ∀ (c : Dev nD) (q : Fin 8), ∃ k : Fin 5, (xLo c k ≤ q.val ∧ q.val < xLo c k + xLen k)
    ∧ ∀ k' : Fin 5, (xLo c k' ≤ q.val ∧ q.val < xLo c k' + xLen k') → k' = k := by decide +kernel

def xCut (c : Dev nD) (k : Fin 5) : Finset S8192x1024.Idx := xSet (1024 * xLo c k) (1024 * xLen k)

theorem xCut_parts (c : Dev nD) : Parts (xCut c) := fun i => by
  have h0 : (i 0).val < 8192 := (i 0).isLt
  obtain ⟨k, hk, hu⟩ := x_of c ⟨(i 0).val / 1024, by omega⟩
  dsimp only at hk hu
  refine ⟨k, mem_xSet.mpr (by omega), fun k' h => hu k' ?_⟩
  have h' := mem_xSet.mp h
  omega

def xItem (k : Fin 5) : Item := if h : k.val < 2 then .xh ⟨k.val, h⟩ else .xb ⟨k.val - 2, by omega⟩
def xItems : List Item := [0, 1, 2, 3, 4].map xItem

theorem res_xItem (c : Dev nD) (k : Fin 5) : (res m c (xItem k) : sProp 𝕄) = xP m c (1024 * xLo c k) (1024 * xLen k) := by
  unfold xItem xLo xLen
  by_cases h : k.val < 2
  · rw [dif_pos h, if_pos h, if_pos h]
    exact congrArg₂ (xP m c) (by dsimp only; omega) rfl
  · rw [dif_neg h, if_neg h, if_neg h]
    exact congrArg₂ (xP m c) (by dsimp only; omega) rfl

theorem x_cut (c : Dev nD) : (((c : Thread nD τ).loc main_arg0) ↦{fullShare} (m ((c : Thread nD τ).loc main_arg0)) : sProp 𝕄) ⊣⊢ holds m c xItems := by
  have h := cut (F := F) (ℓ := (c : Thread nD τ).loc main_arg0) (xCut_parts c) (l := [0, 1, 2, 3, 4]) (by decide) (by decide) (m ((c : Thread nD τ).loc main_arg0))
  exact ⟨(Entails.of_eq h).trans (chain_holds m c _ fun k _ => Entails.of_eq (res_xItem m c k).symm),
    (holds_chain m c (Φ := fun k => xP m c (1024 * xLo c k) (1024 * xLen k)) _ fun k _ => Entails.of_eq (res_xItem m c k)).trans (Entails.of_eq h.symm)⟩

/-! ## The result -/

def oCut (c : Dev nD) (x : Two8) : Finset S8192x1024.Idx := oSet x.1.val (row0 x.1.val (6 + x.2.val) c)

theorem oCut_parts (c : Dev nD) : Parts (oCut c) := fun i => by
  have h0 : (i 0).val < 8192 := (i 0).isLt
  have h1 : (i 1).val < 1024 := (i 1).isLt
  have h2 : (i 1).val / 512 < 2 := by omega
  obtain ⟨t, ht, hu⟩ := rows_of ⟨(i 1).val / 512, h2⟩ c 1 ⟨(i 0).val / 1024, by omega⟩
  simp only [Fin.val_one, Nat.mul_one] at ht hu
  refine ⟨(⟨(i 1).val / 512, h2⟩, t), ?_, ?_⟩
  · unfold oCut; rw [mem_oSet, row0_eq, ht]
    dsimp only
    omega
  · rintro ⟨d, t'⟩ h
    unfold oCut at h; rw [mem_oSet, row0_eq] at h
    obtain rfl : d = ⟨(i 1).val / 512, h2⟩ := Fin.ext (by have := h.2; dsimp only at this ⊢; omega)
    rw [hu t' (by have := h.1; dsimp only at this ⊢; omega)]

theorem oP_eq (c : Dev nD) (x : Two8) (f : Buf (Elt F) ((c : Thread nD τ).loc cc0_stg0_0)) :
    (((c : Thread nD τ).loc cc0_stg0_0) ↦[oCut c x]{fullShare} f : sProp 𝕄) = oP c x.1.val (row0 x.1.val (6 + x.2.val) c) f := rfl

theorem o_cut (c : Dev nD) (f : Buf (Elt F) ((c : Thread nD τ).loc cc0_stg0_0)) :
    (((c : Thread nD τ).loc cc0_stg0_0) ↦{fullShare} f) ⊢ (holds m c (two8.map fun x => .oA x.1 (6 + x.2.val)) : sProp 𝕄) := by
  refine (Entails.of_eq (cut (F := F) (ℓ := (c : Thread nD τ).loc cc0_stg0_0) (oCut_parts c) two8_all two8_nodup f)).trans ?_
  refine chain_holds m c (Φ := fun x => ((c : Thread nD τ).loc cc0_stg0_0) ↦[oCut c x]{fullShare} f) (f := fun x : Two8 => .oA x.1 (6 + x.2.val)) two8 fun x _ => ?_
  simp only [res, oP_eq]
  iintro H; iexists f; iexact H

theorem o_uncut (c : Dev nD) : (holds m c (two8.map fun x => .oD x.1 (6 + x.2.val)) : sProp 𝕄) ⊢ (((c : Thread nD τ).loc cc0_stg0_0) ↦{fullShare} (oBuf m)) :=
  (holds_chain m c (Φ := fun x => ((c : Thread nD τ).loc cc0_stg0_0) ↦[oCut c x]{fullShare} (oBuf m)) (f := fun x : Two8 => .oD x.1 (6 + x.2.val)) two8
    fun x _ => Entails.of_eq (oP_eq c x (oBuf m)).symm).trans
  (Entails.of_eq (cut (F := F) (ℓ := (c : Thread nD τ).loc cc0_stg0_0) (oCut_parts c) two8_all two8_nodup (oBuf m)).symm)

end Cert.RingProof

end
-- ==== Proof.Launch.lean ====
/-
The launch: from any memory with counters at zero, the kernel runs on the four devices and ends with the argument
unchanged, every counter at zero and the result at `oBuf`, the same on every device.
-/
module

public import proofs.«01_k».proof.Proof.Buffers
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

local notation "𝕄" => MT nD τ sig ℕ (Elt F) ℕ UU ℕ

/-! ## Before and after the kernel's body -/

/-- The memory at launch: any contents, counters at zero. -/
def s₀ : MemSt nD τ sig (Elt F) := ⟨m, fun _ => 0, ρ⟩

/-- The argument, as launched. -/
def arg (c : Dev nD) : sProp 𝕄 := ((c : Thread nD τ).loc main_arg0) ↦{fullShare} (m ((c : Thread nD τ).loc main_arg0))

/-- The scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What is dealt to a device of the cells' state. -/
def dealt (c : Dev nD) : sProp 𝕄 := iprop(∃ K, known m K ∗ holds m c tokItems ∗ holds m c (posItems false))

/-- What a device starts from. -/
def ready (c : Dev nD) : sProp 𝕄 := iprop(dealt m c ∗ levAts L lv ∗ holds m c credItems ∗ arg m c)

/-- The counters of the kernel's cells, at zero. -/
def zeros (c : Dev nD) : sProp 𝕄 := bigSep Finset.univ fun k : Fin 27 => semVal (kcell (c, k)) 0

def Φ₀ (c : Dev nD) : sProp 𝕄 := iprop(ready m c ∗ scratch c)
def Φ₁ (c : Dev nD) : sProp 𝕄 := iprop(zeros c ∗ arg m c ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => oBuf m
  Φ t := match t with
    | ⟨0, _⟩ => Φ₀ m c
    | ⟨_ + 1, _⟩ => Φ₁ m c
  q _ := fullShare
  owed t := match t with
    | ⟨0, _⟩ => owed c pays
    | ⟨_ + 1, _⟩ => 0

/-! ## The body -/

/-- A staging buffer at given contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns stg; simp only [Memref.view_whole, View.read_whole, View.set_whole]

/-- The pieces a device starts with, as they come. -/
def startItems : List Item :=
  tokItems ++ posItems false ++ credItems ++ xItems ++ [.mine 0, .mine 1] ++ two8.map (fun x => .blank x.1 x.2.val)
  ++ [.sA 1, .shA 0, .shA 1] ++ two8.map (fun x => .oA x.1 (6 + x.2.val))

/-- The pieces it ends with, as they are put together. -/
def endItems : List Item :=
  posItems true ++ xItems ++ two8.map (fun x => .pc x.1 x.2.val) ++ two4.map (fun x => .pc x.1 (10 + x.2.val))
  ++ [.sb 0 0, .sb 1 1] ++ two8.map (fun x => .oD x.1 (6 + x.2.val))

theorem start_perm : (takeAll init startItems).isSome = true := by decide +kernel
theorem end_perm : (takeAll endItems final).isSome = true := by decide +kernel

theorem start_items (c : Dev nD) (K : Dev nD × Fin 27 → ℕ) (f : Buf (Elt F) ((c : Thread nD τ).loc cc0_stg0_0)) :
    iprop(known m K ∗ holds m c tokItems ∗ holds m c (posItems false) ∗ holds m c credItems ∗ arg m c ∗ scratch c
      ∗ ((c : Thread nD τ).loc cc0_stg0_0) ↦{fullShare} f) ⊢ (holds m c init : sProp 𝕄) := by
  refine (show _ ⊢ (holds m c startItems : sProp 𝕄) from ?_).trans (holds_perm m c start_perm)
  unfold startItems scratch arg
  iintro ⟨#HK, Ht, Hp, Hc, Hx, ⟨Hw, Hr, Hs⟩, Ho⟩
  ihave HB := (known_begun m K) $$ HK
  iapply (holds_append m c _ _).2; isplitr [Ho]
  · iapply (holds_append m c _ _).2; isplitr [Hs]
    · iapply (holds_append m c _ _).2; isplitr [Hw]
      · iapply (holds_append m c _ _).2; isplitr [HB Hr]
        · iapply (holds_append m c _ _).2; isplitr [Hx]
          · iapply (holds_append m c _ _).2; isplitr [Hc]
            · iapply (holds_append m c _ _).2; isplitl [Ht]
              · iexact Ht
              · iexact Hp
            · iexact Hc
          · iapply (x_cut m c).1; iexact Hx
        · iapply (r_cut m c)
          isplitl [HB] <;> iassumption
      · iapply (w_cut m c); iexact Hw
    · iapply (s_cut m c); iexact Hs
  · iapply (o_cut m c f); iexact Ho

theorem end_items (c : Dev nD) :
    (holds m c final : sProp 𝕄) ⊢ iprop(holds m c (posItems true) ∗ arg m c ∗ scratch c ∗ ((c : Thread nD τ).loc cc0_stg0_0) ↦{fullShare} (oBuf m)) := by
  refine (holds_perm m c end_perm).trans ?_
  unfold endItems scratch arg
  iintro H
  ihave H := (holds_append m c _ _).1 $$ H; icases H with ⟨H, Ho⟩
  ihave H := (holds_append m c _ _).1 $$ H; icases H with ⟨H, Hs⟩
  ihave H := (holds_append m c _ _).1 $$ H; icases H with ⟨H, Hr⟩
  ihave H := (holds_append m c _ _).1 $$ H; icases H with ⟨H, Hw⟩
  ihave H := (holds_append m c _ _).1 $$ H; icases H with ⟨Hp, Hx⟩
  isplitl [Hp]; · iexact Hp
  isplitl [Hx]; · iapply (x_cut m c).2; iexact Hx
  isplitl [Hw Hr Hs]
  · isplitl [Hw]; · iapply (w_uncut m c); iexact Hw
    isplitl [Hr]; · iapply (r_uncut m c); iexact Hr
    iapply (s_uncut m c); iexact Hs
  iapply (o_uncut m c); iexact Ho

def bodyPre (c : Dev nD) : sProp 𝕄 :=
  iprop(Φ₀ m c ∗ (dats m ρ 0 c).owesAt 0 t0_0.castSucc ∗ (∃ d, stg c cc0_stg0_0 ((dats m ρ 0 c).before (0 : Fin 1) t0_0 d)))

def bodyPost (c : Dev nD) : sProp 𝕄 :=
  iprop(Φ₁ m c ∗ (dats m ρ 0 c).owesAt 0 t0_0.succ ∗ stg c cc0_stg0_0 ((dats m ρ 0 c).after (0 : Fin 1) t0_0))

theorem bind_ret_self {E : Type → Type} (p : Prog E PUnit) : (p >>= fun _ => Prog.ret PUnit.unit) = p := Prog.bind_pure p

theorem body_run (c : Dev nD) : bodyPre m ρ c ⊢ run c (clean oM hoM) fun _ => bodyPost m ρ c := by
  unfold bodyPre Φ₀ ready dealt Dat.owesAt Pipeline.owesWithin stg
  rw [show (dats m ρ 0 c).owed t0_0.castSucc = owed c pays from rfl, clean_acts]
  simp only [run, wp_deviceId]
  iintro ⟨⟨⟨⟨%K, #HK, Ht, Hp⟩, #HL, Hc, Hx⟩, Hscr⟩, ⟨%W, -, HO⟩, ⟨%d, %f, -, Ho⟩⟩
  ihave #HR := (known_recs m K) $$ [HK HL]
  · isplitr; · iexact HK
    iexact HL
  ihave HI := (start_items m c K f) $$ [HK Ht Hp Hc Hx Hscr Ho]
  · isplitr; · iexact HK
    isplitl [Ht]; · iexact Ht
    isplitl [Hp]; · iexact Hp
    isplitl [Hc]; · iexact Hc
    isplitl [Hx]; · iexact Hx
    isplitl [Hscr] <;> iassumption
  iapply (show iprop(recs m K ∗ Ow c pays ∗ holds m c init) ⊢ iprop((iprop(Ow c [] ∗ holds m c final) -∗ run c (.ret ⟨⟩) (fun _ => bodyPost m ρ c))
      -∗ run c (runActs c acts) (fun _ => bodyPost m ρ c)) from by
    have h := acts_does (m := m) (K := K) (c := c) (fun _ => .ret ⟨⟩) (fun _ => bodyPost m ρ c)
    rwa [bind_ret_self] at h) $$ [HO HI]
  · isplitr; · iexact HR
    isplitl [HO]
    · unfold Ow; iexists W; iexact HO
    · iexact HI
  unfold Ow
  iintro ⟨⟨%W', HO⟩, HF⟩
  ihave HF := (end_items m c) $$ HF
  icases HF with ⟨Hp, Hx, Hscr, Ho⟩
  imod (close_cells m K c) $$ [Hp] with HZ
  · isplitr; · iexact HR
    iexact Hp
  simp only [run]
  rw [wp_ret]; imodintro
  unfold bodyPost Φ₁ Dat.owesAt Pipeline.owesWithin stg zeros
  rw [show (dats m ρ 0 c).owed t0_0.succ = 0 from rfl]
  isplitl [HZ Hx Hscr]
  · isplitl [HZ]; · iexact HZ
    isplitl [Hx] <;> iassumption
  isplitl [HO]
  · iexists W'
    isplitr; · ipureintro; exact fun _ _ => Or.inl trivial
    iexact HO
  iexists (oBuf m); isplitr; · (ipureintro; rfl)
  iexact Ho

theorem body_at : bodyAt0 (F := F) t0_0 = clean oM hoM := body_clean _ _

set_option maxRecDepth 100000 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 (F := F) t0_0) fun _ => bodyPost m ρ c
  rw [body_at]
  exact body_run m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

/-- What device `c` is given of the cells' state to start with. -/
def G (c : Dev nD) : sProp 𝕄 :=
  iprop((bigSep Finset.univ fun k : Fin 27 => roundState ER (Sch m) (kcell (c, k)) 0)
    ∗ (bigSep Finset.univ fun k : Fin 27 => posRes (kcell (c, k)) 0) ∗ bigSepL keys (tokAt c))

theorem fund_ring : BI.own (ER (initOf ringCells ringToks)) ⊢ (|==> bigSep Finset.univ (G m) : sProp 𝕄) := by
  iintro HX
  imod (Rounds.fund ER (Sch m) ringCells ringToks) $$ HX with ⟨Hst, Hr, Hat, Htok⟩
  imodintro
  ihave Hst := (Entails.of_eq (ringCells_eq fun g => roundState ER (Sch m) g 0)) $$ Hst
  ihave Hat := (Entails.of_eq (ringCells_eq fun g => atPos ER g 0 ∅ 0)) $$ Hat
  ihave Hr := (Entails.of_eq (ringCells_eq fun g => reached ER g 0)) $$ Hr
  ihave Htok := (Entails.of_eq ringToks_eq) $$ Htok
  unfold G posRes; simp only [bigSep_sep']
  isplitl [Hst]; · iexact Hst
  isplitl [Hat Hr]
  · isplitl [Hat] <;> iassumption
  iexact Htok

theorem zeros_eq (c : Dev nD) :
    (zeros c : sProp 𝕄) = iprop(unscopedSems0 c ∗ Pipeline.ownSems0 (Ix := ℕ) (Name := ℕ) (U := UU) (Lvl := ℕ) (Val := Elt F) (τ := τ) osem c) := by
  have hu : (unscopedSems0 c : sProp 𝕄) = semVal (kcell (c, 0)) 0 := by
    unfold unscopedSems0; rw [bigSep_eq_bigSepL_of_eq [SemLoc.reg barS] (by decide) (by decide)]; rfl
  have ho : (Pipeline.ownSems0 (Ix := ℕ) (Name := ℕ) (U := UU) (Lvl := ℕ) (Val := Elt F) (τ := τ) osem c : sProp 𝕄)
      = bigSepL (List.finRange 26) fun k => semVal (kcell (c, k.succ)) 0 :=
    (bigSep_eq_bigSepL_of_eq (List.finRange 26) (by decide +kernel) (List.nodup_finRange 26) _)
  unfold zeros
  rw [hu, ho, bigSep_eq_bigSepL_of_eq _ all_cells (List.nodup_finRange 27), List.finRange_succ, bigSepL_cons', bigSepL_map]

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Sch m) κ (kcell (c, k))))
          ∗ (bigSep Finset.univ fun k => posRes (kcell (c, k)) 0) ∗ bigSepL keys (tokAt c)) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : Fin 27 => semVal (kcell (c, k)) 0) ∗ bigSep Finset.univ fun k : Fin 27 => roundState ER (Sch m) (kcell (c, k)) 0)
      ⊢ (|={Set.univ}=> bigSep Finset.univ fun k => iprop(∃ κ : ℕ, cellInv ER (Sch m) κ (kcell (c, k))) : sProp 𝕄) from by
        rw [← bigSep_sep']
        exact (bigSep_mono fun k _ => (Rounds.body_intro ER (Sch m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem pos_reached (g : GSem nD τ sig) (r : ℕ) : (posRes g r : sProp 𝕄) ⊢ iprop(posRes g r ∗ reached ER g r) := by
  unfold posRes
  iintro ⟨Ha, #Hr⟩
  isplitl [Ha]
  · isplitl [Ha]; · iexact Ha
    iexact Hr
  · iexact Hr

theorem regroup :
    (bigSep Finset.univ fun c : Dev nD => iprop((bigSep Finset.univ fun k => iprop(∃ κ : ℕ, cellInv ER (Sch m) κ (kcell (c, k))))
          ∗ (bigSep Finset.univ fun k => posRes (kcell (c, k)) 0) ∗ bigSepL keys (tokAt c)) : sProp 𝕄)
      ⊢ bigSep Finset.univ (dealt m) := by
  rw [bigSep_sep', bigSep_sep', ← bigSep_univ_prod (fun ck : Dev nD × Fin 27 => iprop(∃ κ : ℕ, cellInv ER (Sch m) κ (kcell ck)))]
  iintro ⟨HI, Hat, Htok⟩
  ihave HK := (BI.bigSep_exists_pi Finset.univ (fun (ck : Dev nD × Fin 27) (κ : ℕ) => (cellInv ER (Sch m) κ (kcell ck) : sProp 𝕄))) $$ HI
  icases HK with ⟨%K, #HI⟩
  ihave Hat := (show (bigSep Finset.univ fun c : Dev nD => bigSep Finset.univ fun k : Fin 27 => posRes (kcell (c, k)) 0)
      ⊢ (iprop((bigSep Finset.univ fun c : Dev nD => bigSep Finset.univ fun k : Fin 27 => posRes (kcell (c, k)) 0) ∗ begun) : sProp 𝕄) from by
    unfold begun
    rw [bigSep_univ_prod (fun ck : Dev nD × Fin 27 => (reached ER (kcell ck) 0 : sProp 𝕄)), ← bigSep_sep']
    refine bigSep_mono fun c _ => ?_
    rw [← bigSep_sep']
    exact bigSep_mono fun k _ => pos_reached _ _) $$ Hat
  icases Hat with ⟨Hat, #HB⟩
  ihave Hat := (show (bigSep Finset.univ fun c : Dev nD => bigSep Finset.univ fun k : Fin 27 => posRes (kcell (c, k)) 0 : sProp 𝕄)
      ⊢ bigSep Finset.univ fun c : Dev nD => holds m c (posItems false) from bigSep_mono fun c _ => positions m c) $$ Hat
  ihave Htok := (deal m tokItems tokItems_tok) $$ [Htok]
  · isplitr; · iexact HB
    iexact Htok
  ihave H := (Entails.of_eq (bigSep_sep' Finset.univ (fun c : Dev nD => holds m c tokItems) (fun c : Dev nD => holds m c (posItems false))).symm) $$ [Hat Htok]
  · isplitl [Htok] <;> iassumption
  iapply (each (R := known m K) (Φ := fun c : Dev nD => iprop(holds m c tokItems ∗ holds m c (posItems false))) (Ψ := dealt m) fun c _ => by
    unfold dealt
    iintro ⟨#HK, H⟩
    iexists K
    isplitr; · iexact HK
    iexact H)
  isplitr
  · unfold known
    isplitr; · iexact HI
    unfold begun
    iexact HB
  · iexact H

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred (fun c => owed c pays) c ∗ prngReg c (ρ c) ∗ dealt m c)
      ⊢ |={Set.univ}=> iprop(ready m c ∗ emp) := by
  rw [Pipeline.unscopedRestP_none, unscopedRest0_eq]
  iintro ⟨Hx, Hlev, Hcr, -, HG⟩
  ihave Hc := (credits m c) $$ Hcr
  imodintro
  unfold ready arg
  isplitl
  · isplitl [HG]; · iexact HG
    isplitl [Hlev]; · iexact Hlev
    isplitl [Hc]; · iexact Hc
    iexact Hx
  · iempintro

theorem phi0_intro (c : Dev nD) :
    iprop(ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ arg m c) ∗ Pipeline.ownSems0 osem c ∗ Pipeline.scopedRest cfg0.spec c) := by
  rw [show (dats m ρ 0 c).Φ (Fin.last cfg0.N) = Φ₁ m c from rfl, scopedRest0_eq]
  unfold Φ₁
  rw [zeros_eq]
  unfold scratch
  iintro ⟨⟨Hu, Ho⟩, Hx, Hr⟩
  isplitl [Hu Hx]
  · isplitl [Hu] <;> iassumption
  isplitl [Ho] <;> iassumption

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 0 pays (by decide) (by fin_cases w; fin_cases s; exact le_refl 0) (by decide +kernel)
    · exact mayWait c _ 0 0 [] (by decide) (by fin_cases w; fin_cases s; exact le_refl 0) rfl

/-! ## The run -/

/-- Each device's result after the run. -/
def finalA (c : Dev nD) (w : Fin cfg0.W) : Buf (Elt F) ((cfg0.win w).arr.view.loc (c : Thread nD τ)) := (dats m ρ 0 c).arrAt w cfg0.N

theorem arg_read (c : Dev nD) (s' : Phys nD τ sig (Elt F)) :
    iprop(arg m c ∗ SI s') ⊢ (iprop(⌜s'.mem.mem ((c : Thread nD τ).loc main_arg0) = m ((c : Thread nD τ).loc main_arg0)⌝ ∗ SI s') : sProp 𝕄) := by
  have h := pointsTo_read_all (Ix := ℕ) (Name := ℕ) (U := UU) (Lvl := ℕ) ({()} : Finset Unit) (fun _ => (c : Thread nD τ).loc main_arg0)
    (fun _ => m ((c : Thread nD τ).loc main_arg0)) s'
  rw [bigSep_singleton] at h
  unfold arg
  refine h.trans ?_
  iintro ⟨%h, H⟩
  isplitr; · ipureintro; exact h () (Finset.mem_singleton_self _)
  iexact H

set_option maxRecDepth 100000 in
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0)
    (hshare := share_eq m ρ) (hdistinct := winFacts0.arr_inj)
    (O₀ := fun c => owed c pays) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := ready m) (Y := fun c => iprop(unscopedSems0 c ∗ arg m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨⟨Hu, Hx⟩, -, HSI⟩
      ihave H := (arg_read m c s') $$ [Hx HSI]
      · isplitl [Hx] <;> iassumption
      icases H with ⟨%hx, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hx⟩
      iexact HSI)
    (hQ := fun _ h hs => ⟨fun c => ⟨(h c).1, (h c).2.2.2⟩, sem_eq_zero hs fun c => (h c).2.2.1⟩)

end Cert.RingProof

end
-- ==== Proof.Value.lean ====
/-
The value: over the extended reals the result of every device is the reference's sum of the four blocks.

A device's result is a sum of the four devices' rows, taken around a ring from the device the block ends at; the reference
adds the four blocks of its whole argument. Addition of extended reals is commutative and associative and the change of
format is the identity, so the two agree.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.ValueIdx
public import Idealize.ShloMosaic.Lib.Pointwise.Reduce
public import Idealize.ShloMosaic.Lib.Pointwise.Reshape
public import Idealize.ShloMosaic.Lib.Pipeline.ValueKit.Geometry

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The result array -/

/-- Each device's result array holds what the body left in the staging buffer. -/
theorem final_out (m : (ℓ : Loc nD τ sig) → Buf (Elt F) ℓ) (ρ : Dev nD → PrngReg) (c : Dev nD) : finalA m ρ c 0 = oBuf m :=
  (dats m ρ 0 c).arrAt_eq_of_after_last 0 t0_0 (by decide +kernel) (oBuf m) fun _ => rfl

/-! ## The sum around the ring -/

theorem ring_sum (f : Dev nD → EReal) (d : ℕ) (c : Dev nD) :
    f c + (f (frD d c) + (f (frD d (frD d c)) + f (frD d (frD d (frD d c))))) = f 0 + f 1 + f 2 + f 3 := by
  unfold frD
  split
  · fin_cases c
    · show f 0 + (f 3 + (f 2 + f 1)) = _; abel
    · show f 1 + (f 0 + (f 3 + f 2)) = _; abel
    · show f 2 + (f 1 + (f 0 + f 3)) = _; abel
    · show f 3 + (f 2 + (f 1 + f 0)) = _; abel
  · fin_cases c
    · show f 0 + (f 1 + (f 2 + f 3)) = _; abel
    · show f 1 + (f 2 + (f 3 + f 0)) = _; abel
    · show f 2 + (f 3 + (f 0 + f 1)) = _; abel
    · show f 3 + (f 0 + (f 1 + f 2)) = _; abel

/-- Row `r`, column `k` of the result: the sum of the four devices' arguments there. -/
theorem out_sum (m : (ℓ : Loc nD τ sig) → Buf (Elt Ideal) ℓ) (r k : ℕ) :
    (outAt m r k : EReal) = (xAt m 0 r k : EReal) + (xAt m 1 r k : EReal) + (xAt m 2 r k : EReal) + (xAt m 3 r k : EReal) := by
  refine Eq.trans ?_ (ring_sum (fun c => (xAt m c r k : EReal)) (k / 512) (own (k / 512) (r / 2048)))
  show (xAt m _ r (512 * (k / 512) + k % 512) : EReal) + ((xAt m _ r (512 * (k / 512) + k % 512) : EReal)
    + ((xAt m _ r (512 * (k / 512) + k % 512) : EReal) + (xAt m _ r (512 * (k / 512) + k % 512) : EReal))) = _
  rw [Nat.div_add_mod]

/-! ## The reference's sum -/

/-- The reference's result: the sum of the four blocks of rows, in the result's format. -/
def total (x : Cert.ReferenceIdeal.S32768x1024.Idx → Ideal .f32) : S8192x1024.Idx → Ideal .bf16 :=
  truncf .bf16 (Host.reduceAdd (shapeCast Cert.ReferenceIdeal.S4x8192x1024 x Cert.ReferenceIdeal.Facts₀.shapeCasts_S32768x1024_S4x8192x1024)
    (constant Cert.ReferenceIdeal.S_ .f32 0x00000000#32) Cert.ReferenceIdeal.Facts₀.reducesTo_S4x8192x1024_S8192x1024_d0 Cert.ReferenceIdeal.Facts₀.h_S_)
    Cert.ReferenceIdeal.Facts₀.bitsLt_bf16_f32

/-- The whole argument cut by rows into four blocks. -/
theorem tiles : Layout.Tiles S8192x1024 Cert.ReferenceIdeal.S32768x1024 0 4 := by decide

/-- Cutting the rows into four and taking block `c` is reading block `c` of the whole. -/
theorem split_at (x : Cert.ReferenceIdeal.S32768x1024.Idx → EReal) (c : Fin 4) (i : S8192x1024.Idx) (j : Cert.ReferenceIdeal.S4x8192x1024.Idx)
    (h0 : (j 0).val = c.val) (h1 : (j 1).val = (i 0).val) (h2 : (j 2).val = (i 1).val) :
    shapeCast Cert.ReferenceIdeal.S4x8192x1024 x Cert.ReferenceIdeal.Facts₀.shapeCasts_S32768x1024_S4x8192x1024 j = x (tiles.idx c i) := by
  refine shapeCast_apply x _ j _ ?_
  rw [rowMajor_val3 j (8192 * 1024) 1024 rfl rfl, rowMajor_val2 (tiles.idx c i) 1024 rfl, (Layout.idx_rows_val tiles c i).1,
    (Layout.idx_rows_val tiles c i).2, h0, h1, h2]
  show (c.val * 8192 + (i 0).val) * 1024 + (i 1).val = _
  ring

theorem total_at (x : Cert.ReferenceIdeal.S32768x1024.Idx → Ideal .f32) (i : S8192x1024.Idx) :
    (total x i : EReal) = (x (tiles.idx 0 i) : EReal) + (x (tiles.idx 1 i) : EReal) + (x (tiles.idx 2 i) : EReal) + (x (tiles.idx 3 i) : EReal) := by
  unfold total
  rw [ValueIdx.truncf_apply, ValueIdx.hostReduceAdd_apply, Ideal.hostReduceAdd_r3_a0, ValueIdx.constant_apply, Ideal.ofBits_zero_f32, zero_add,
    Fin.sum_univ_four, split_at x 0 i _ rfl rfl rfl, split_at x 1 i _ rfl rfl rfl, split_at x 2 i _ rfl rfl rfl, split_at x 3 i _ rfl rfl rfl]

/-- Where the devices hold the four blocks of `x`, the result is the reference's. -/
theorem out_total (m : (ℓ : Loc nD τ sig) → Buf (Elt Ideal) ℓ) (x : Cert.ReferenceIdeal.S32768x1024.Idx → Ideal .f32)
    (h : ∀ c : Dev nD, m ((c : Thread nD τ).loc main_arg0) = Layout.block S8192x1024 Cert.ReferenceIdeal.S32768x1024 0 4 c x tiles) :
    oBuf m = total x := by
  have hx : ∀ (c : Dev nD) (i : S8192x1024.Idx), xAt m c (i 0).val (i 1).val = x (tiles.idx c i) := fun c i => by
    unfold xAt; rw [ix_val, h c]; rfl
  funext i
  refine (out_sum m (i 0).val (i 1).val).trans (Eq.trans ?_ (total_at x i).symm)
  rw [hx 0, hx 1, hx 2, hx 3]

/-! ## The claims' runs -/

theorem frame_run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun _ h => ⟨fun c => (h.1 c).2, h.2⟩) (run_main m ρ)

theorem value_run (m : (ℓ : Loc nD τ sig) → Buf (Elt F) ℓ) (ρ : Dev nD → PrngReg) :
    θ_run defs (onTc (τ := τ) (main (F := F))) ⟨m, fun _ => 0, ρ⟩ (fun r =>
      ∀ c : Dev nD, r.2.mem ((c : Thread nD τ).loc main_v1) = oBuf m ∧ r.2.mem ((c : Thread nD τ).loc main_arg0) = m ((c : Thread nD τ).loc main_arg0)) :=
  (θ_run defs _ _).mono (fun _ h c => ⟨((h.1 c).1 0).trans (final_out m ρ c), (h.1 c).2⟩) (run_main m ρ)

end Cert.RingProof

end
-- ==== Proof.lean ====
/-
The claims: the kernel, over words and over the extended reals, and the reference each run to the end with their argument
unchanged and every counter at zero; and over the extended reals the kernel's result on every device is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The two kernels are one text -/

set_option maxRecDepth 100000 in
theorem bodies_eq : Cert.Kernel.defs₀ (F := Bits) = Cert.KernelIdeal.defs₀ (F := Bits) := by
  unfold Cert.Kernel.defs₀ Cert.KernelIdeal.defs₀
  refine congrArg Defs.onTc (funext fun ℓ => ?_)
  fin_cases ℓ
  rfl

theorem defs_eq : Cert.Kernel.defs (F := Bits) = Cert.KernelIdeal.defs (F := Bits) :=
  congrArg (Pipeline.defs (Cert.Kernel.pcfgs (F := Bits))) bodies_eq

/-! ## The claims -/

theorem frame_kernel : Cert.quiescent_Kernel := fun m ρ _ => by
  rw [defs_eq]
  exact Cert.RingProof.frame_run (F := Bits) m ρ

theorem frame_kernelIdeal : Cert.quiescent_KernelIdeal := fun m ρ _ => Cert.RingProof.frame_run (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal := fun m ρ m' ρ' _ hagree =>
  ⟨Cert.RingProof.oBuf m, Cert.RingProof.value_run (F := Ideal) m ρ,
    (θ_run Cert.ReferenceIdeal.defs _ _).mono (fun _ h => ⟨((h 0).1).trans (Cert.RingProof.out_total m _ hagree).symm, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, frame_kernel, frame_kernelIdeal, frame_reference, trivial, value⟩

end Cert.Proof

end
